-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "nlog2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)) (v3 : (c : Dev Cert.KernelIdeal.nD) → Buf (Elt Ideal) ((c.tc : Thread Cert.KernelIdeal.nD Cert.KernelIdeal.τ).loc Cert.KernelIdeal.main_v66_3)) (v4 : (c : Dev Cert.KernelIdeal.nD) → Buf (Elt Ideal) ((c.tc : Thread Cert.KernelIdeal.nD Cert.KernelIdeal.τ).loc Cert.KernelIdeal.main_v66_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_v66_3) = v3 c
          ∧ r.2.mem ((c.tc : Thread Cert.KernelIdeal.nD Cert.KernelIdeal.τ).loc Cert.KernelIdeal.main_v66_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_v245) = v2 c
          ∧ r.2.mem ((c.tc : Thread Cert.ReferenceIdeal.nD Cert.ReferenceIdeal.τ).loc Cert.ReferenceIdeal.main_v250) = v3 c
          ∧ r.2.mem ((c.tc : Thread Cert.ReferenceIdeal.nD Cert.ReferenceIdeal.τ).loc Cert.ReferenceIdeal.main_v230) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x8192x2048 : Shape := ⟨3, ![1, 8192, 2048]⟩
abbrev S8x6144 : Shape := ⟨2, ![8, 6144]⟩
abbrev S1x2048 : Shape := ⟨2, ![1, 2048]⟩
abbrev S1x2048x6144 : Shape := ⟨3, ![1, 2048, 6144]⟩
abbrev S1x3x1024 : Shape := ⟨3, ![1, 3, 1024]⟩
abbrev S1x4x1024 : Shape := ⟨3, ![1, 4, 1024]⟩
abbrev S1x1024 : Shape := ⟨2, ![1, 1024]⟩
abbrev S1x2x16x64x64 : Shape := ⟨5, ![1, 2, 16, 64, 64]⟩
abbrev S1x2x1024 : Shape := ⟨3, ![1, 2, 1024]⟩
abbrev S_ : Shape := ⟨0, ![]⟩

class Facts : Prop where
  bcast_S_S1x8192x2048 : S_.BroadcastsInDim S1x8192x2048 (![] : Fin 0 → Fin S1x8192x2048.rank)
  bcast_S_S8x6144 : S_.BroadcastsInDim S8x6144 (![] : Fin 0 → Fin S8x6144.rank)
  bcast_S_S1x2048 : S_.BroadcastsInDim S1x2048 (![] : Fin 0 → Fin S1x2048.rank)
  bcast_S_S1x2048x6144 : S_.BroadcastsInDim S1x2048x6144 (![] : Fin 0 → Fin S1x2048x6144.rank)
  bcast_S_S1x3x1024 : S_.BroadcastsInDim S1x3x1024 (![] : Fin 0 → Fin S1x3x1024.rank)
  bcast_S_S1x4x1024 : S_.BroadcastsInDim S1x4x1024 (![] : Fin 0 → Fin S1x4x1024.rank)
  bcast_S_S1x1024 : S_.BroadcastsInDim S1x1024 (![] : Fin 0 → Fin S1x1024.rank)
  bcast_S_S1x2x16x64x64 : S_.BroadcastsInDim S1x2x16x64x64 (![] : Fin 0 → Fin S1x2x16x64x64.rank)
  bcast_S_S1x2x1024 : S_.BroadcastsInDim S1x2x1024 (![] : Fin 0 → Fin S1x2x1024.rank)

variable [Facts]

def fn_part1 {F : FTy → Type} [FloatOps F] (main_arg6 : FVec F S1x1024 .f32) (main_arg7 : FVec F S1x2x16x64x64 .f32) (main_arg8 : FVec F S1x2x1024 .f32) (main_arg9 : FVec F S1x2x16x64x64 .f32) (main_arg10 : FVec F S1x2x1024 .f32) (main_arg11 : FVec F S1x2x1024 .f32) (main_v2 : IVec S1x8192x2048 1) (main_v5 : IVec S8x6144 1) (main_v8 : IVec S1x2048 1) (main_v11 : IVec S1x2048x6144 1) (main_v14 : IVec S1x3x1024 1) (main_v17 : IVec S1x4x1024 1) : IVec S1x8192x2048 1 × IVec S8x6144 1 × IVec S1x2048 1 × IVec S1x2048x6144 1 × IVec S1x3x1024 1 × IVec S1x4x1024 1 × IVec S1x1024 1 × IVec S1x2x16x64x64 1 × IVec S1x2x1024 1 × IVec S1x2x16x64x64 1 × IVec S1x2x1024 1 × IVec S1x2x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x2x16x64x64 .f32 := Host.absf main_arg7
  let main_cst_6 : FVec F S_ .f32 := constant S_ .f32 0x7F800000#32
  let main_v22 : FVec F S1x2x16x64x64 .f32 := broadcastInDim S1x2x16x64x64 ![] bcast_S_S1x2x16x64x64 main_cst_6
  let main_v23 : IVec S1x2x16x64x64 1 := cmpf .olt main_v21 main_v22
  let main_v24 : FVec F S1x2x1024 .f32 := Host.absf main_arg8
  let main_cst_7 : FVec F S_ .f32 := constant S_ .f32 0x7F800000#32
  let main_v25 : FVec F S1x2x1024 .f32 := broadcastInDim S1x2x1024 ![] bcast_S_S1x2x1024 main_cst_7
  let main_v26 : IVec S1x2x1024 1 := cmpf .olt main_v24 main_v25
  let main_v27 : FVec F S1x2x16x64x64 .f32 := Host.absf main_arg9
  let main_cst_8 : FVec F S_ .f32 := constant S_ .f32 0x7F800000#32
  let main_v28 : FVec F S1x2x16x64x64 .f32 := broadcastInDim S1x2x16x64x64 ![] bcast_S_S1x2x16x64x64 main_cst_8
  let main_v29 : IVec S1x2x16x64x64 1 := cmpf .olt main_v27 main_v28
  let main_v30 : FVec F S1x2x1024 .f32 := Host.absf main_arg10
  let main_cst_9 : FVec F S_ .f32 := constant S_ .f32 0x7F800000#32
  let main_v31 : FVec F S1x2x1024 .f32 := broadcastInDim S1x2x1024 ![] bcast_S_S1x2x1024 main_cst_9
  let main_v32 : IVec S1x2x1024 1 := cmpf .olt main_v30 main_v31
  let main_v33 : FVec F S1x2x1024 .f32 := Host.absf main_arg11
  let main_cst_10 : FVec F S_ .f32 := constant S_ .f32 0x7F800000#32
  let main_v34 : FVec F S1x2x1024 .f32 := broadcastInDim S1x2x1024 ![] bcast_S_S1x2x1024 main_cst_10
  let main_v35 : IVec S1x2x1024 1 := cmpf .olt main_v33 main_v34
  (main_v2, main_v5, main_v8, main_v11, main_v14, main_v17, main_v20, main_v23, main_v26, main_v29, main_v32, main_v35)

def fn {F : FTy → Type} [FloatOps F] (main_arg0 : FVec F S1x8192x2048 .f32) (main_arg1 : FVec F S8x6144 .f32) (main_arg2 : FVec F S1x2048 .f32) (main_arg3 : FVec F S1x2048x6144 .f32) (main_arg4 : FVec F S1x3x1024 .f32) (main_arg5 : FVec F S1x4x1024 .f32) (main_arg6 : FVec F S1x1024 .f32) (main_arg7 : FVec F S1x2x16x64x64 .f32) (main_arg8 : FVec F S1x2x1024 .f32) (main_arg9 : FVec F S1x2x16x64x64 .f32) (main_arg10 : FVec F S1x2x1024 .f32) (main_arg11 : FVec F S1x2x1024 .f32) : IVec S1x8192x2048 1 × IVec S8x6144 1 × IVec S1x2048 1 × IVec S1x2048x6144 1 × IVec S1x3x1024 1 × IVec S1x4x1024 1 × IVec S1x1024 1 × IVec S1x2x16x64x64 1 × IVec S1x2x1024 1 × IVec S1x2x16x64x64 1 × IVec S1x2x1024 1 × IVec S1x2x1024 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S8x6144 .f32 := Host.absf main_arg1
  let main_cst_0 : FVec F S_ .f32 := constant S_ .f32 0x7F800000#32
  let main_v4 : FVec F S8x6144 .f32 := broadcastInDim S8x6144 ![] bcast_S_S8x6144 main_cst_0
  let main_v5 : IVec S8x6144 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x6144 .f32 := Host.absf main_arg3
  let main_cst_2 : FVec F S_ .f32 := constant S_ .f32 0x7F800000#32
  let main_v10 : FVec F S1x2048x6144 .f32 := broadcastInDim S1x2048x6144 ![] bcast_S_S1x2048x6144 main_cst_2
  let main_v11 : IVec S1x2048x6144 1 := cmpf .olt main_v9 main_v10
  let main_v12 : FVec F S1x3x1024 .f32 := Host.absf main_arg4
  let main_cst_3 : FVec F S_ .f32 := constant S_ .f32 0x7F800000#32
  let main_v13 : FVec F S1x3x1024 .f32 := broadcastInDim S1x3x1024 ![] bcast_S_S1x3x1024 main_cst_3
  let main_v14 : IVec S1x3x1024 1 := cmpf .olt main_v12 main_v13
  let main_v15 : FVec F S1x4x1024 .f32 := Host.absf main_arg5
  let main_cst_4 : FVec F S_ .f32 := constant S_ .f32 0x7F800000#32
  let main_v16 : FVec F S1x4x1024 .f32 := broadcastInDim S1x4x1024 ![] bcast_S_S1x4x1024 main_cst_4
  let main_v17 : IVec S1x4x1024 1 := cmpf .olt main_v15 main_v16
  fn_part1 (F := F) main_arg6 main_arg7 main_arg8 main_arg9 main_arg10 main_arg11 main_v2 main_v5 main_v8 main_v11 main_v14 main_v17
-- ==== Kernel.lean ====
abbrev S1x8192x2048 : Shape := ⟨3, ![1, 8192, 2048]⟩
abbrev S8x6144 : Shape := ⟨2, ![8, 6144]⟩
abbrev S1x2048 : Shape := ⟨2, ![1, 2048]⟩
abbrev S1x2048x6144 : Shape := ⟨3, ![1, 2048, 6144]⟩
abbrev S1x3x1024 : Shape := ⟨3, ![1, 3, 1024]⟩
abbrev S1x4x1024 : Shape := ⟨3, ![1, 4, 1024]⟩
abbrev S1x1024 : Shape := ⟨2, ![1, 1024]⟩
abbrev S1x2x16x64x64 : Shape := ⟨5, ![1, 2, 16, 64, 64]⟩
abbrev S1x2x1024 : Shape := ⟨3, ![1, 2, 1024]⟩
abbrev S8192x2048 : Shape := ⟨2, ![8192, 2048]⟩
abbrev S8x1024x2048 : Shape := ⟨3, ![8, 1024, 2048]⟩
abbrev S2048x6144 : Shape := ⟨2, ![2048, 6144]⟩
abbrev S2048x1024 : Shape := ⟨2, ![2048, 1024]⟩
abbrev S2048x4x256 : Shape := ⟨3, ![2048, 4, 256]⟩
abbrev S2048x3x256 : Shape := ⟨3, ![2048, 3, 256]⟩
abbrev S2048x1x256 : Shape := ⟨3, ![2048, 1, 256]⟩
abbrev S2048x4x1x256 : Shape := ⟨4, ![2048, 4, 1, 256]⟩
abbrev S2048x4x6x256 : Shape := ⟨4, ![2048, 4, 6, 256]⟩
abbrev S3x1024 : Shape := ⟨2, ![3, 1024]⟩
abbrev S4x1024 : Shape := ⟨2, ![4, 1024]⟩
abbrev S2x16x64x64 : Shape := ⟨4, ![2, 16, 64, 64]⟩
abbrev S_ : Shape := ⟨0, ![]⟩
abbrev S2x4x4x64x64 : Shape := ⟨5, ![2, 4, 4, 64, 64]⟩
abbrev S4x4 : Shape := ⟨2, ![4, 4]⟩
abbrev S2x4x4x64x1x64 : Shape := ⟨6, ![2, 4, 4, 64, 1, 64]⟩
abbrev S1x1x4x1x4x1 : Shape := ⟨6, ![1, 1, 4, 1, 4, 1]⟩
abbrev S2x4x4x64x4x64 : Shape := ⟨6, ![2, 4, 4, 64, 4, 64]⟩
abbrev S2x4x256x256 : Shape := ⟨4, ![2, 4, 256, 256]⟩
abbrev S2x4x256x512 : Shape := ⟨4, ![2, 4, 256, 512]⟩
abbrev S2x1024 : Shape := ⟨2, ![2, 1024]⟩
abbrev S8192x1024 : Shape := ⟨2, ![8192, 1024]⟩
abbrev S16x4x8x1024 : Shape := ⟨4, ![16, 4, 8, 1024]⟩
abbrev S8x64x2048 : Shape := ⟨3, ![8, 64, 2048]⟩
abbrev S512x1024 : Shape := ⟨2, ![512, 1024]⟩
abbrev S1x4x8x1024 : Shape := ⟨4, ![1, 4, 8, 1024]⟩
abbrev S16x512x128 : Shape := ⟨3, ![16, 512, 128]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩
abbrev S1x64x128 : Shape := ⟨3, ![1, 64, 128]⟩
abbrev S64x128 : Shape := ⟨2, ![64, 128]⟩
abbrev S1x128 : Shape := ⟨2, ![1, 128]⟩
abbrev S1x512x128 : Shape := ⟨3, ![1, 512, 128]⟩
abbrev S512x128 : Shape := ⟨2, ![512, 128]⟩
abbrev S512x2048 : Shape := ⟨2, ![512, 2048]⟩
abbrev S2048x256 : Shape := ⟨2, ![2048, 256]⟩
abbrev S512x256 : Shape := ⟨2, ![512, 256]⟩
abbrev S4x256 : Shape := ⟨2, ![4, 256]⟩
abbrev S16x256 : Shape := ⟨2, ![16, 256]⟩
abbrev S496x256 : Shape := ⟨2, ![496, 256]⟩
abbrev S1x256 : Shape := ⟨2, ![1, 256]⟩
abbrev S8x256 : Shape := ⟨2, ![8, 256]⟩
abbrev S504x256 : Shape := ⟨2, ![504, 256]⟩
abbrev S1x1x256x512 : Shape := ⟨4, ![1, 1, 256, 512]⟩
abbrev S256x512 : Shape := ⟨2, ![256, 512]⟩
abbrev S256x256 : Shape := ⟨2, ![256, 256]⟩
abbrev S2048x1536 : Shape := ⟨2, ![2048, 1536]⟩
abbrev S512x1536 : Shape := ⟨2, ![512, 1536]⟩
abbrev S3x256 : Shape := ⟨2, ![3, 256]⟩
abbrev S1x1x8x256 : Shape := ⟨4, ![1, 1, 8, 256]⟩
abbrev S2048x1280 : Shape := ⟨2, ![2048, 1280]⟩
abbrev S512x1280 : Shape := ⟨2, ![512, 1280]⟩

abbrev nBuf : Space → Nat
  | .hbm => 87
  | .vmem => 23
  | .smem => 0
  | _ => 0

abbrev bufTy : (tb : Table) → Fin (tcTables nBuf tb) → BufTy
  | .hbm, ⟨0, _⟩ => ⟨S1x8192x2048, .f32⟩
  | .hbm, ⟨1, _⟩ => ⟨S8x6144, .f32⟩
  | .hbm, ⟨2, _⟩ => ⟨S1x2048, .f32⟩
  | .hbm, ⟨3, _⟩ => ⟨S1x2048x6144, .f32⟩
  | .hbm, ⟨4, _⟩ => ⟨S1x3x1024, .f32⟩
  | .hbm, ⟨5, _⟩ => ⟨S1x4x1024, .f32⟩
  | .hbm, ⟨6, _⟩ => ⟨S1x1024, .f32⟩
  | .hbm, ⟨7, _⟩ => ⟨S1x2x16x64x64, .f32⟩
  | .hbm, ⟨8, _⟩ => ⟨S1x2x1024, .f32⟩
  | .hbm, ⟨9, _⟩ => ⟨S1x2x16x64x64, .f32⟩
  | .hbm, ⟨10, _⟩ => ⟨S1x2x1024, .f32⟩
  | .hbm, ⟨11, _⟩ => ⟨S1x2x1024, .f32⟩
  | .hbm, ⟨12, _⟩ => ⟨S8192x2048, .f32⟩
  | .hbm, ⟨13, _⟩ => ⟨S8x1024x2048, .f32⟩
  | .hbm, ⟨14, _⟩ => ⟨S2048x6144, .f32⟩
  | .hbm, ⟨15, _⟩ => ⟨S2048x1024, .f32⟩
  | .hbm, ⟨16, _⟩ => ⟨S2048x4x256, .f32⟩
  | .hbm, ⟨17, _⟩ => ⟨S2048x1024, .f32⟩
  | .hbm, ⟨18, _⟩ => ⟨S2048x4x256, .f32⟩
  | .hbm, ⟨19, _⟩ => ⟨S2048x1024, .f32⟩
  | .hbm, ⟨20, _⟩ => ⟨S2048x4x256, .f32⟩
  | .hbm, ⟨21, _⟩ => ⟨S2048x1024, .f32⟩
  | .hbm, ⟨22, _⟩ => ⟨S2048x4x256, .f32⟩
  | .hbm, ⟨23, _⟩ => ⟨S2048x1024, .f32⟩
  | .hbm, ⟨24, _⟩ => ⟨S2048x4x256, .f32⟩
  | .hbm, ⟨25, _⟩ => ⟨S2048x1024, .f32⟩
  | .hbm, ⟨26, _⟩ => ⟨S2048x4x256, .f32⟩
  | .hbm, ⟨27, _⟩ => ⟨S2048x3x256, .f32⟩
  | .hbm, ⟨28, _⟩ => ⟨S2048x1x256, .f32⟩
  | .hbm, ⟨29, _⟩ => ⟨S2048x4x256, .f32⟩
  | .hbm, ⟨30, _⟩ => ⟨S2048x4x1x256, .f32⟩
  | .hbm, ⟨31, _⟩ => ⟨S2048x4x1x256, .f32⟩
  | .hbm, ⟨32, _⟩ => ⟨S2048x4x1x256, .f32⟩
  | .hbm, ⟨33, _⟩ => ⟨S2048x4x1x256, .f32⟩
  | .hbm, ⟨34, _⟩ => ⟨S2048x4x1x256, .f32⟩
  | .hbm, ⟨35, _⟩ => ⟨S2048x4x1x256, .f32⟩
  | .hbm, ⟨36, _⟩ => ⟨S2048x4x6x256, .f32⟩
  | .hbm, ⟨37, _⟩ => ⟨S2048x6144, .f32⟩
  | .hbm, ⟨38, _⟩ => ⟨S2048x6144, .bf16⟩
  | .hbm, ⟨39, _⟩ => ⟨S3x1024, .f32⟩
  | .hbm, ⟨40, _⟩ => ⟨S4x1024, .f32⟩
  | .hbm, ⟨41, _⟩ => ⟨S2x16x64x64, .f32⟩
  | .hbm, ⟨42, _⟩ => ⟨S2x16x64x64, .f32⟩
  | .hbm, ⟨43, _⟩ => ⟨S_, .f32⟩
  | .hbm, ⟨44, _⟩ => ⟨S2x16x64x64, .f32⟩
  | .hbm, ⟨45, _⟩ => ⟨S2x16x64x64, .f32⟩
  | .hbm, ⟨46, _⟩ => ⟨S2x4x4x64x64, .f32⟩
  | .hbm, ⟨47, _⟩ => ⟨S4x4, .i32⟩
  | .hbm, ⟨48, _⟩ => ⟨S4x4, .i32⟩
  | .hbm, ⟨49, _⟩ => ⟨S_, .i32⟩
  | .hbm, ⟨50, _⟩ => ⟨S4x4, .i32⟩
  | .hbm, ⟨51, _⟩ => ⟨S4x4, .i32⟩
  | .hbm, ⟨52, _⟩ => ⟨S4x4, .i1⟩
  | .hbm, ⟨53, _⟩ => ⟨S4x4, .f32⟩
  | .hbm, ⟨54, _⟩ => ⟨S2x4x4x64x1x64, .f32⟩
  | .hbm, ⟨55, _⟩ => ⟨S1x1x4x1x4x1, .f32⟩
  | .hbm, ⟨56, _⟩ => ⟨S2x4x4x64x4x64, .f32⟩
  | .hbm, ⟨57, _⟩ => ⟨S2x4x4x64x4x64, .f32⟩
  | .hbm, ⟨58, _⟩ => ⟨S2x4x4x64x4x64, .f32⟩
  | .hbm, ⟨59, _⟩ => ⟨S2x4x256x256, .f32⟩
  | .hbm, ⟨60, _⟩ => ⟨S_, .f32⟩
  | .hbm, ⟨61, _⟩ => ⟨S2x16x64x64, .f32⟩
  | .hbm, ⟨62, _⟩ => ⟨S2x16x64x64, .f32⟩
  | .hbm, ⟨63, _⟩ => ⟨S2x4x4x64x64, .f32⟩
  | .hbm, ⟨64, _⟩ => ⟨S4x4, .i32⟩
  | .hbm, ⟨65, _⟩ => ⟨S4x4, .i32⟩
  | .hbm, ⟨66, _⟩ => ⟨S_, .i32⟩
  | .hbm, ⟨67, _⟩ => ⟨S4x4, .i32⟩
  | .hbm, ⟨68, _⟩ => ⟨S4x4, .i32⟩
  | .hbm, ⟨69, _⟩ => ⟨S4x4, .i1⟩
  | .hbm, ⟨70, _⟩ => ⟨S4x4, .f32⟩
  | .hbm, ⟨71, _⟩ => ⟨S2x4x4x64x1x64, .f32⟩
  | .hbm, ⟨72, _⟩ => ⟨S1x1x4x1x4x1, .f32⟩
  | .hbm, ⟨73, _⟩ => ⟨S2x4x4x64x4x64, .f32⟩
  | .hbm, ⟨74, _⟩ => ⟨S2x4x4x64x4x64, .f32⟩
  | .hbm, ⟨75, _⟩ => ⟨S2x4x4x64x4x64, .f32⟩
  | .hbm, ⟨76, _⟩ => ⟨S2x4x256x256, .f32⟩
  | .hbm, ⟨77, _⟩ => ⟨S2x4x256x512, .f32⟩
  | .hbm, ⟨78, _⟩ => ⟨S2x4x256x512, .bf16⟩
  | .hbm, ⟨79, _⟩ => ⟨S2x1024, .f32⟩
  | .hbm, ⟨80, _⟩ => ⟨S2x1024, .f32⟩
  | .hbm, ⟨81, _⟩ => ⟨S2x1024, .f32⟩
  | .hbm, ⟨82, _⟩ => ⟨S8192x1024, .bf16⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S16x4x8x1024, .f32⟩
  | .local _ .vmem, ⟨0, _⟩ => ⟨S8x64x2048, .f32⟩
  | .local _ .vmem, ⟨1, _⟩ => ⟨S8x64x2048, .f32⟩
  | .local _ .vmem, ⟨2, _⟩ => ⟨S1x2048, .f32⟩
  | .local _ .vmem, ⟨3, _⟩ => ⟨S8x6144, .f32⟩
  | .local _ .vmem, ⟨4, _⟩ => ⟨S2048x6144, .bf16⟩
  | .local _ .vmem, ⟨5, _⟩ => ⟨S3x1024, .f32⟩
  | .local _ .vmem, ⟨6, _⟩ => ⟨S4x1024, .f32⟩
  | .local _ .vmem, ⟨7, _⟩ => ⟨S1x1024, .f32⟩
  | .local _ .vmem, ⟨8, _⟩ => ⟨S2x4x256x512, .bf16⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x4x8x1024, .f32⟩
  | .local _ .vmem, ⟨21, _⟩ => ⟨S1x4x8x1024, .f32⟩
  | .local _ .vmem, ⟨22, _⟩ => ⟨S16x512x128, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_1 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66_0 : Ref sig .tc := ⟨.hbm, 82, rfl⟩
abbrev main_v66_1 : Ref sig .tc := ⟨.hbm, 83, rfl⟩
abbrev main_v66_2 : Ref sig .tc := ⟨.hbm, 84, rfl⟩
abbrev main_v66_3 : Ref sig .tc := ⟨.hbm, 85, rfl⟩
abbrev main_v66_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "nlog2e" => some ((-((Real.log 2)⁻¹) : ℝ) : EReal)
  | _ => none
-- ==== ReferenceIdeal.lean ====
abbrev S1x8192x2048 : Shape := ⟨3, ![1, 8192, 2048]⟩
abbrev S8x6144 : Shape := ⟨2, ![8, 6144]⟩
abbrev S1x2048 : Shape := ⟨2, ![1, 2048]⟩
abbrev S1x2048x6144 : Shape := ⟨3, ![1, 2048, 6144]⟩
abbrev S1x3x1024 : Shape := ⟨3, ![1, 3, 1024]⟩
abbrev S1x4x1024 : Shape := ⟨3, ![1, 4, 1024]⟩
abbrev S1x1024 : Shape := ⟨2, ![1, 1024]⟩
abbrev S1x2x16x64x64 : Shape := ⟨5, ![1, 2, 16, 64, 64]⟩
abbrev S1x2x1024 : Shape := ⟨3, ![1, 2, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x6144 : Shape := ⟨2, ![2048, 6144]⟩
abbrev S8192x6144 : Shape := ⟨2, ![8192, 6144]⟩
abbrev S8192x1024 : Shape := ⟨2, ![8192, 1024]⟩
abbrev S3x1024 : Shape := ⟨2, ![3, 1024]⟩
abbrev S128x64x1024 : Shape := ⟨3, ![128, 64, 1024]⟩
abbrev S128x66x1024 : Shape := ⟨3, ![128, 66, 1024]⟩
abbrev S1024 : Shape := ⟨1, ![1024]⟩
abbrev S1x1x1024 : Shape := ⟨3, ![1, 1, 1024]⟩
abbrev S4x1024 : Shape := ⟨2, ![4, 1024]⟩
abbrev S128x67x1024 : Shape := ⟨3, ![128, 67, 1024]⟩
abbrev S1x1x16x64x64 : Shape := ⟨5, ![1, 1, 16, 64, 64]⟩
abbrev S16x64x64 : Shape := ⟨3, ![16, 64, 64]⟩
abbrev S8192x16x64 : Shape := ⟨3, ![8192, 16, 64]⟩
abbrev S16x64x8192 : Shape := ⟨3, ![16, 64, 8192]⟩
abbrev S128x1024 : Shape := ⟨2, ![128, 1024]⟩
abbrev S64x128x1024 : Shape := ⟨3, ![64, 128, 1024]⟩
abbrev S1x128x1024 : Shape := ⟨3, ![1, 128, 1024]⟩
abbrev S8x16x1024 : Shape := ⟨3, ![8, 16, 1024]⟩
abbrev S16x8x1024 : Shape := ⟨3, ![16, 8, 1024]⟩
abbrev S16x1x8x1024 : Shape := ⟨4, ![16, 1, 8, 1024]⟩
abbrev S16x4x8x1024 : Shape := ⟨4, ![16, 4, 8, 1024]⟩
abbrev S64x8x16x1024 : Shape := ⟨4, ![64, 8, 16, 1024]⟩
abbrev S16x64x8x1024 : Shape := ⟨4, ![16, 64, 8, 1024]⟩

abbrev nBuf : Space → Nat
  | .hbm => 422
  | .vmem => 0
  | .smem => 0
  | _ => 0

abbrev hbmTy0_0 (i : Nat) : BufTy := match i % 128 with
  | 0 => ⟨S1x8192x2048, .f32⟩
  | 1 => ⟨S8x6144, .f32⟩
  | 2 => ⟨S1x2048, .f32⟩
  | 3 => ⟨S1x2048x6144, .f32⟩
  | 4 => ⟨S1x3x1024, .f32⟩
  | 5 => ⟨S1x4x1024, .f32⟩
  | 6 => ⟨S1x1024, .f32⟩
  | 7 => ⟨S1x2x16x64x64, .f32⟩
  | 8 => ⟨S1x2x1024, .f32⟩
  | 9 => ⟨S1x2x16x64x64, .f32⟩
  | 10 => ⟨S1x2x1024, .f32⟩
  | 11 => ⟨S1x2x1024, .f32⟩
  | 12 => ⟨S1x2048, .f32⟩
  | 13 => ⟨S1x2048, .f32⟩
  | 14 => ⟨S8192x2048, .f32⟩
  | 15 => ⟨S8192x2048, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x2048, .f32⟩
  | 27 => ⟨S8192x2048, .f32⟩
  | 28 => ⟨S8192x2048, .f32⟩
  | 29 => ⟨S8192x2048, .f32⟩
  | 30 => ⟨S_, .f32⟩
  | 31 => ⟨S1x2048, .f32⟩
  | 32 => ⟨S1x2048, .f32⟩
  | 33 => ⟨S8192x2048, .f32⟩
  | 34 => ⟨S8192x2048, .f32⟩
  | 35 => ⟨S8192x2048, .f32⟩
  | 36 => ⟨S8192x2048, .f32⟩
  | 37 => ⟨S2048x6144, .f32⟩
  | 38 => ⟨S8192x6144, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S3x1024, .f32⟩
  | 47 => ⟨S128x64x1024, .f32⟩
  | 48 => ⟨S_, .i32⟩
  | 49 => ⟨S_, .f32⟩
  | 50 => ⟨S128x66x1024, .f32⟩
  | 51 => ⟨S128x64x1024, .f32⟩
  | 52 => ⟨S1x1024, .f32⟩
  | 53 => ⟨S1024, .f32⟩
  | 54 => ⟨S1x1x1024, .f32⟩
  | 55 => ⟨S128x64x1024, .f32⟩
  | 56 => ⟨S128x64x1024, .f32⟩
  | 57 => ⟨S128x64x1024, .f32⟩
  | 58 => ⟨S1x1024, .f32⟩
  | 59 => ⟨S1024, .f32⟩
  | 60 => ⟨S1x1x1024, .f32⟩
  | 61 => ⟨S128x64x1024, .f32⟩
  | 62 => ⟨S128x64x1024, .f32⟩
  | 63 => ⟨S128x64x1024, .f32⟩
  | 64 => ⟨S128x64x1024, .f32⟩
  | 65 => ⟨S1x1024, .f32⟩
  | 66 => ⟨S1024, .f32⟩
  | 67 => ⟨S1x1x1024, .f32⟩
  | 68 => ⟨S128x64x1024, .f32⟩
  | 69 => ⟨S128x64x1024, .f32⟩
  | 70 => ⟨S128x64x1024, .f32⟩
  | 71 => ⟨S8192x1024, .f32⟩
  | 72 => ⟨S4x1024, .f32⟩
  | 73 => ⟨S128x64x1024, .f32⟩
  | 74 => ⟨S_, .i32⟩
  | 75 => ⟨S_, .f32⟩
  | 76 => ⟨S128x67x1024, .f32⟩
  | 77 => ⟨S128x64x1024, .f32⟩
  | 78 => ⟨S1x1024, .f32⟩
  | 79 => ⟨S1024, .f32⟩
  | 80 => ⟨S1x1x1024, .f32⟩
  | 81 => ⟨S128x64x1024, .f32⟩
  | 82 => ⟨S128x64x1024, .f32⟩
  | 83 => ⟨S128x64x1024, .f32⟩
  | 84 => ⟨S1x1024, .f32⟩
  | 85 => ⟨S1024, .f32⟩
  | 86 => ⟨S1x1x1024, .f32⟩
  | 87 => ⟨S128x64x1024, .f32⟩
  | 88 => ⟨S128x64x1024, .f32⟩
  | 89 => ⟨S128x64x1024, .f32⟩
  | 90 => ⟨S128x64x1024, .f32⟩
  | 91 => ⟨S1x1024, .f32⟩
  | 92 => ⟨S1024, .f32⟩
  | 93 => ⟨S1x1x1024, .f32⟩
  | 94 => ⟨S128x64x1024, .f32⟩
  | 95 => ⟨S128x64x1024, .f32⟩
  | 96 => ⟨S128x64x1024, .f32⟩
  | 97 => ⟨S128x64x1024, .f32⟩
  | 98 => ⟨S1x1024, .f32⟩
  | 99 => ⟨S1024, .f32⟩
  | 100 => ⟨S1x1x1024, .f32⟩
  | 101 => ⟨S128x64x1024, .f32⟩
  | 102 => ⟨S128x64x1024, .f32⟩
  | 103 => ⟨S128x64x1024, .f32⟩
  | 104 => ⟨S8192x1024, .f32⟩
  | 105 => ⟨S8192x1024, .f32⟩
  | 106 => ⟨S8192x1024, .f32⟩
  | 107 => ⟨S1x1x16x64x64, .f32⟩
  | 108 => ⟨S16x64x64, .f32⟩
  | 109 => ⟨S1x1x1024, .f32⟩
  | 110 => ⟨S1024, .f32⟩
  | 111 => ⟨S1x1x16x64x64, .f32⟩
  | 112 => ⟨S16x64x64, .f32⟩
  | 113 => ⟨S1x1x1024, .f32⟩
  | 114 => ⟨S1024, .f32⟩
  | 115 => ⟨S1x1x1024, .f32⟩
  | 116 => ⟨S1024, .f32⟩
  | 117 => ⟨S8192x16x64, .f32⟩
  | 118 => ⟨S16x64x8192, .f32⟩
  | 119 => ⟨S8192x16x64, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S1x8192x2048, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S8192x16x64, .f32⟩
  | 5 => ⟨S16x64x8192, .f32⟩
  | 6 => ⟨S8192x16x64, .f32⟩
  | 7 => ⟨S8192x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S1024, .f32⟩
  | 23 => ⟨S_, .f32⟩
  | 24 => ⟨S1024, .f32⟩
  | 25 => ⟨S1024, .f32⟩
  | 26 => ⟨S1024, .f32⟩
  | 27 => ⟨S1024, .f32⟩
  | 28 => ⟨S1024, .i1⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1x1024, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S1x1x16x64x64, .f32⟩
  | 50 => ⟨S16x64x64, .f32⟩
  | 51 => ⟨S1x1x1024, .f32⟩
  | 52 => ⟨S1024, .f32⟩
  | 53 => ⟨S1x1x16x64x64, .f32⟩
  | 54 => ⟨S16x64x64, .f32⟩
  | 55 => ⟨S1x1x1024, .f32⟩
  | 56 => ⟨S1024, .f32⟩
  | 57 => ⟨S1x1x1024, .f32⟩
  | 58 => ⟨S1024, .f32⟩
  | 59 => ⟨S8192x16x64, .f32⟩
  | 60 => ⟨S16x64x8192, .f32⟩
  | 61 => ⟨S8192x16x64, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x16x64, .f32⟩
  | 75 => ⟨S16x64x8192, .f32⟩
  | 76 => ⟨S8192x16x64, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S1024, .i1⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S128x1024, .f32⟩
  | 121 => ⟨S_, .f32⟩
  | 122 => ⟨S128x1024, .f32⟩
  | 123 => ⟨S128x64x1024, .f32⟩
  | 124 => ⟨S64x128x1024, .f32⟩
  | 125 => ⟨S128x64x1024, .f32⟩
  | 126 => ⟨S64x128x1024, .f32⟩
  | 127 => ⟨S128x64x1024, .f32⟩
  | _ => ⟨S1x8192x2048, .f32⟩

abbrev hbmTy0_2 (i : Nat) : BufTy := match i % 128 with
  | 0 => ⟨S64x128x1024, .f32⟩
  | 1 => ⟨S64x128x1024, .f32⟩
  | 2 => ⟨S128x64x1024, .f32⟩
  | 3 => ⟨S64x128x1024, .f32⟩
  | 4 => ⟨S64x128x1024, .f32⟩
  | 5 => ⟨S128x64x1024, .f32⟩
  | 6 => ⟨S64x128x1024, .f32⟩
  | 7 => ⟨S128x64x1024, .f32⟩
  | 8 => ⟨S64x128x1024, .f32⟩
  | 9 => ⟨S128x64x1024, .f32⟩
  | 10 => ⟨S64x128x1024, .f32⟩
  | 11 => ⟨S128x64x1024, .f32⟩
  | 12 => ⟨S64x128x1024, .f32⟩
  | 13 => ⟨S_, .f32⟩
  | 14 => ⟨S64x128x1024, .f32⟩
  | 15 => ⟨S_, .f32⟩
  | 16 => ⟨S64x128x1024, .f32⟩
  | 17 => ⟨S_, .f32⟩
  | 18 => ⟨S64x128x1024, .f32⟩
  | 19 => ⟨S_, .f32⟩
  | 20 => ⟨S64x128x1024, .f32⟩
  | 21 => ⟨S_, .f32⟩
  | 22 => ⟨S64x128x1024, .f32⟩
  | 23 => ⟨S_, .f32⟩
  | 24 => ⟨S64x128x1024, .f32⟩
  | 25 => ⟨S_, .i32⟩
  | 26 => ⟨S64x128x1024, .f32⟩
  | 27 => ⟨S64x128x1024, .f32⟩
  | 28 => ⟨S64x128x1024, .f32⟩
  | 29 => ⟨S64x128x1024, .f32⟩
  | 30 => ⟨S64x128x1024, .f32⟩
  | 31 => ⟨S64x128x1024, .f32⟩
  | 32 => ⟨S64x128x1024, .f32⟩
  | 33 => ⟨S64x128x1024, .f32⟩
  | 34 => ⟨S_, .i32⟩
  | 35 => ⟨S128x1024, .f32⟩
  | 36 => ⟨S128x1024, .f32⟩
  | 37 => ⟨S128x1024, .f32⟩
  | 38 => ⟨S128x1024, .f32⟩
  | 39 => ⟨S64x128x1024, .f32⟩
  | 40 => ⟨S64x128x1024, .f32⟩
  | 41 => ⟨S64x128x1024, .f32⟩
  | 42 => ⟨S64x128x1024, .f32⟩
  | 43 => ⟨S64x128x1024, .f32⟩
  | 44 => ⟨S64x128x1024, .f32⟩
  | 45 => ⟨S_, .i32⟩
  | 46 => ⟨S_, .i1⟩
  | 47 => ⟨S_, .i32⟩
  | 48 => ⟨S_, .i32⟩
  | 49 => ⟨S1x128x1024, .f32⟩
  | 50 => ⟨S128x1024, .f32⟩
  | 51 => ⟨S_, .i32⟩
  | 52 => ⟨S_, .i32⟩
  | 53 => ⟨S1x128x1024, .f32⟩
  | 54 => ⟨S128x1024, .f32⟩
  | 55 => ⟨S_, .i32⟩
  | 56 => ⟨S_, .i32⟩
  | 57 => ⟨S1x128x1024, .f32⟩
  | 58 => ⟨S128x1024, .f32⟩
  | 59 => ⟨S_, .i32⟩
  | 60 => ⟨S_, .i32⟩
  | 61 => ⟨S1x128x1024, .f32⟩
  | 62 => ⟨S128x1024, .f32⟩
  | 63 => ⟨S_, .i32⟩
  | 64 => ⟨S_, .i32⟩
  | 65 => ⟨S1x128x1024, .f32⟩
  | 66 => ⟨S128x1024, .f32⟩
  | 67 => ⟨S_, .i32⟩
  | 68 => ⟨S_, .i32⟩
  | 69 => ⟨S1x128x1024, .f32⟩
  | 70 => ⟨S128x1024, .f32⟩
  | 71 => ⟨S_, .i32⟩
  | 72 => ⟨S_, .i32⟩
  | 73 => ⟨S1x128x1024, .f32⟩
  | 74 => ⟨S128x1024, .f32⟩
  | 75 => ⟨S_, .i32⟩
  | 76 => ⟨S_, .i32⟩
  | 77 => ⟨S1x128x1024, .f32⟩
  | 78 => ⟨S128x1024, .f32⟩
  | 79 => ⟨S128x1024, .f32⟩
  | 80 => ⟨S128x1024, .f32⟩
  | 81 => ⟨S128x1024, .f32⟩
  | 82 => ⟨S128x1024, .f32⟩
  | 83 => ⟨S128x1024, .f32⟩
  | 84 => ⟨S128x1024, .f32⟩
  | 85 => ⟨S128x1024, .f32⟩
  | 86 => ⟨S128x1024, .f32⟩
  | 87 => ⟨S128x1024, .f32⟩
  | 88 => ⟨S_, .f32⟩
  | 89 => ⟨S128x1024, .f32⟩
  | 90 => ⟨S128x1024, .f32⟩
  | 91 => ⟨S_, .f32⟩
  | 92 => ⟨S128x1024, .f32⟩
  | 93 => ⟨S128x1024, .f32⟩
  | 94 => ⟨S128x1024, .f32⟩
  | 95 => ⟨S128x1024, .f32⟩
  | 96 => ⟨S128x1024, .f32⟩
  | 97 => ⟨S128x1024, .f32⟩
  | 98 => ⟨S_, .f32⟩
  | 99 => ⟨S128x1024, .f32⟩
  | 100 => ⟨S128x1024, .f32⟩
  | 101 => ⟨S_, .f32⟩
  | 102 => ⟨S128x1024, .f32⟩
  | 103 => ⟨S128x1024, .f32⟩
  | 104 => ⟨S128x1024, .f32⟩
  | 105 => ⟨S1x128x1024, .f32⟩
  | 106 => ⟨S_, .i32⟩
  | 107 => ⟨S_, .i32⟩
  | 108 => ⟨S64x128x1024, .f32⟩
  | 109 => ⟨S1x128x1024, .f32⟩
  | 110 => ⟨S_, .i32⟩
  | 111 => ⟨S_, .i32⟩
  | 112 => ⟨S64x128x1024, .f32⟩
  | 113 => ⟨S1x128x1024, .f32⟩
  | 114 => ⟨S_, .i32⟩
  | 115 => ⟨S_, .i32⟩
  | 116 => ⟨S64x128x1024, .f32⟩
  | 117 => ⟨S1x128x1024, .f32⟩
  | 118 => ⟨S_, .i32⟩
  | 119 => ⟨S_, .i32⟩
  | 120 => ⟨S64x128x1024, .f32⟩
  | 121 => ⟨S1x128x1024, .f32⟩
  | 122 => ⟨S_, .i32⟩
  | 123 => ⟨S_, .i32⟩
  | 124 => ⟨S64x128x1024, .f32⟩
  | 125 => ⟨S1x128x1024, .f32⟩
  | 126 => ⟨S_, .i32⟩
  | 127 => ⟨S_, .i32⟩
  | _ => ⟨S1x8192x2048, .f32⟩

abbrev hbmTy0_3 (i : Nat) : BufTy := match i % 128 with
  | 0 => ⟨S64x128x1024, .f32⟩
  | 1 => ⟨S_, .i32⟩
  | 2 => ⟨S_, .i32⟩
  | 3 => ⟨S64x128x1024, .f32⟩
  | 4 => ⟨S64x128x1024, .f32⟩
  | 5 => ⟨S8x16x1024, .f32⟩
  | 6 => ⟨S16x8x1024, .f32⟩
  | 7 => ⟨S8x16x1024, .f32⟩
  | 8 => ⟨S16x8x1024, .f32⟩
  | 9 => ⟨S8x16x1024, .f32⟩
  | 10 => ⟨S16x8x1024, .f32⟩
  | 11 => ⟨S8x16x1024, .f32⟩
  | 12 => ⟨S16x8x1024, .f32⟩
  | 13 => ⟨S16x1x8x1024, .f32⟩
  | 14 => ⟨S16x1x8x1024, .f32⟩
  | 15 => ⟨S16x1x8x1024, .f32⟩
  | 16 => ⟨S16x1x8x1024, .f32⟩
  | 17 => ⟨S16x4x8x1024, .f32⟩
  | 18 => ⟨S64x8x16x1024, .f32⟩
  | 19 => ⟨S16x64x8x1024, .f32⟩
  | 20 => ⟨S8192x1024, .f32⟩
  | 21 => ⟨S8192x1024, .bf16⟩
  | 22 => ⟨S64x128x1024, .f32⟩
  | 23 => ⟨S64x128x1024, .f32⟩
  | 24 => ⟨S64x8x16x1024, .f32⟩
  | 25 => ⟨S16x64x8x1024, .f32⟩
  | 26 => ⟨S8192x1024, .f32⟩
  | 27 => ⟨S8192x1024, .bf16⟩
  | 28 => ⟨S64x128x1024, .f32⟩
  | 29 => ⟨S64x8x16x1024, .f32⟩
  | 30 => ⟨S16x64x8x1024, .f32⟩
  | 31 => ⟨S8192x1024, .f32⟩
  | 32 => ⟨S8192x1024, .bf16⟩
  | 33 => ⟨S64x128x1024, .f32⟩
  | 34 => ⟨S64x8x16x1024, .f32⟩
  | 35 => ⟨S16x64x8x1024, .f32⟩
  | 36 => ⟨S8192x1024, .f32⟩
  | 37 => ⟨S8192x1024, .bf16⟩
  | _ => ⟨S1x8192x2048, .f32⟩

abbrev hbmTy (i : Nat) : BufTy := match i / 128 with
  | 0 => hbmTy0_0 i
  | 1 => hbmTy0_1 i
  | 2 => hbmTy0_2 i
  | 3 => hbmTy0_3 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_3 : Ref sig .tc := ⟨.hbm, 74, rfl⟩
abbrev main_call1_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_4 : Ref sig .tc := ⟨.hbm, 126, rfl⟩
abbrev main_v106 : Ref sig .tc := ⟨.hbm, 127, rfl⟩
abbrev main_v107 : Ref sig .tc := ⟨.hbm, 128, rfl⟩
abbrev main_cst_5 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_6 : Ref sig .tc := ⟨.hbm, 141, rfl⟩
abbrev main_v119 : Ref sig .tc := ⟨.hbm, 142, rfl⟩
abbrev main_v120 : Ref sig .tc := ⟨.hbm, 143, rfl⟩
abbrev main_cst_7 : Ref sig .tc := ⟨.hbm, 144, rfl⟩
abbrev main_v121 : Ref sig .tc := ⟨.hbm, 145, rfl⟩
abbrev main_v122 : Ref sig .tc := ⟨.hbm, 146, rfl⟩
abbrev main_cst_8 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_v7 : Ref sig .tc := ⟨.hbm, 159, rfl⟩
abbrev main_call2_v8 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_9 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_10 : Ref sig .tc := ⟨.hbm, 196, rfl⟩
abbrev main_v157 : Ref sig .tc := ⟨.hbm, 197, rfl⟩
abbrev main_v158 : Ref sig .tc := ⟨.hbm, 198, rfl⟩
abbrev main_cst_11 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_12 : Ref sig .tc := ⟨.hbm, 211, rfl⟩
abbrev main_v170 : Ref sig .tc := ⟨.hbm, 212, rfl⟩
abbrev main_v171 : Ref sig .tc := ⟨.hbm, 213, rfl⟩
abbrev main_cst_13 : Ref sig .tc := ⟨.hbm, 214, rfl⟩
abbrev main_v172 : Ref sig .tc := ⟨.hbm, 215, rfl⟩
abbrev main_v173 : Ref sig .tc := ⟨.hbm, 216, rfl⟩
abbrev main_cst_14 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_call3_cst : Ref sig .tc := ⟨.hbm, 221, rfl⟩
abbrev main_call3_v0 : Ref sig .tc := ⟨.hbm, 222, rfl⟩
abbrev main_call3_v1 : Ref sig .tc := ⟨.hbm, 223, rfl⟩
abbrev main_call3_v2 : Ref sig .tc := ⟨.hbm, 224, rfl⟩
abbrev main_call3_v3 : Ref sig .tc := ⟨.hbm, 225, rfl⟩
abbrev main_call3_v4 : Ref sig .tc := ⟨.hbm, 226, rfl⟩
abbrev main_call3_v5 : Ref sig .tc := ⟨.hbm, 227, rfl⟩
abbrev main_call3_v6 : Ref sig .tc := ⟨.hbm, 228, rfl⟩
abbrev main_call3_v7 : Ref sig .tc := ⟨.hbm, 229, rfl⟩
abbrev main_call3_v8 : Ref sig .tc := ⟨.hbm, 230, rfl⟩
abbrev main_call3_v9 : Ref sig .tc := ⟨.hbm, 231, rfl⟩
abbrev main_call3_v10 : Ref sig .tc := ⟨.hbm, 232, rfl⟩
abbrev main_call3_v11 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_15 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_16 : Ref sig .tc := ⟨.hbm, 247, rfl⟩
abbrev main_v189 : Ref sig .tc := ⟨.hbm, 248, rfl⟩
abbrev main_cst_17 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_cst_18 : Ref sig .tc := ⟨.hbm, 269, rfl⟩
abbrev main_v209 : Ref sig .tc := ⟨.hbm, 270, rfl⟩
abbrev main_cst_19 : Ref sig .tc := ⟨.hbm, 271, rfl⟩
abbrev main_v210 : Ref sig .tc := ⟨.hbm, 272, rfl⟩
abbrev main_cst_20 : Ref sig .tc := ⟨.hbm, 273, rfl⟩
abbrev main_v211 : Ref sig .tc := ⟨.hbm, 274, rfl⟩
abbrev main_cst_21 : Ref sig .tc := ⟨.hbm, 275, rfl⟩
abbrev main_v212 : Ref sig .tc := ⟨.hbm, 276, rfl⟩
abbrev main_cst_22 : Ref sig .tc := ⟨.hbm, 277, rfl⟩
abbrev main_v213 : Ref sig .tc := ⟨.hbm, 278, rfl⟩
abbrev main_cst_23 : Ref sig .tc := ⟨.hbm, 279, rfl⟩
abbrev main_v214 : Ref sig .tc := ⟨.hbm, 280, rfl⟩
abbrev main_c_24 : Ref sig .tc := ⟨.hbm, 281, rfl⟩
abbrev main_v215_0 : Ref sig .tc := ⟨.hbm, 282, rfl⟩
abbrev main_v215_1 : Ref sig .tc := ⟨.hbm, 283, rfl⟩
abbrev main_v215_2 : Ref sig .tc := ⟨.hbm, 284, rfl⟩
abbrev main_v215_3 : Ref sig .tc := ⟨.hbm, 285, rfl⟩
abbrev main_v215_4 : Ref sig .tc := ⟨.hbm, 286, rfl⟩
abbrev main_v215_5 : Ref sig .tc := ⟨.hbm, 287, rfl⟩
abbrev main_v215_6 : Ref sig .tc := ⟨.hbm, 288, rfl⟩
abbrev main_v215_7 : Ref sig .tc := ⟨.hbm, 289, rfl⟩
abbrev main_v215_8 : Ref sig .tc := ⟨.hbm, 290, rfl⟩
abbrev main_v215_9 : Ref sig .tc := ⟨.hbm, 291, rfl⟩
abbrev main_v215_10 : Ref sig .tc := ⟨.hbm, 292, rfl⟩
abbrev main_v215_11 : Ref sig .tc := ⟨.hbm, 293, rfl⟩
abbrev main_v215_12 : Ref sig .tc := ⟨.hbm, 294, rfl⟩
abbrev main_v215_13 : Ref sig .tc := ⟨.hbm, 295, rfl⟩
abbrev main_v215_14 : Ref sig .tc := ⟨.hbm, 296, rfl⟩
abbrev main_v215_15 : Ref sig .tc := ⟨.hbm, 297, rfl⟩
abbrev main_v215_16 : Ref sig .tc := ⟨.hbm, 298, rfl⟩
abbrev main_v215_17 : Ref sig .tc := ⟨.hbm, 299, rfl⟩
abbrev main_v215_18 : Ref sig .tc := ⟨.hbm, 300, rfl⟩
abbrev main_while0c_c_43 : Ref sig .tc := ⟨.hbm, 301, rfl⟩
abbrev main_while0c_v251 : Ref sig .tc := ⟨.hbm, 302, rfl⟩
abbrev main_while0b_call6_c : Ref sig .tc := ⟨.hbm, 303, rfl⟩
abbrev main_while0b_call6_c_0 : Ref sig .tc := ⟨.hbm, 304, rfl⟩
abbrev main_while0b_call6_v0 : Ref sig .tc := ⟨.hbm, 305, rfl⟩
abbrev main_while0b_v251 : Ref sig .tc := ⟨.hbm, 306, rfl⟩
abbrev main_while0b_call7_c : Ref sig .tc := ⟨.hbm, 307, rfl⟩
abbrev main_while0b_call7_c_0 : Ref sig .tc := ⟨.hbm, 308, rfl⟩
abbrev main_while0b_call7_v0 : Ref sig .tc := ⟨.hbm, 309, rfl⟩
abbrev main_while0b_v252 : Ref sig .tc := ⟨.hbm, 310, rfl⟩
abbrev main_while0b_call8_c : Ref sig .tc := ⟨.hbm, 311, rfl⟩
abbrev main_while0b_call8_c_0 : Ref sig .tc := ⟨.hbm, 312, rfl⟩
abbrev main_while0b_call8_v0 : Ref sig .tc := ⟨.hbm, 313, rfl⟩
abbrev main_while0b_v253 : Ref sig .tc := ⟨.hbm, 314, rfl⟩
abbrev main_while0b_call9_c : Ref sig .tc := ⟨.hbm, 315, rfl⟩
abbrev main_while0b_call9_c_0 : Ref sig .tc := ⟨.hbm, 316, rfl⟩
abbrev main_while0b_call9_v0 : Ref sig .tc := ⟨.hbm, 317, rfl⟩
abbrev main_while0b_v254 : Ref sig .tc := ⟨.hbm, 318, rfl⟩
abbrev main_while0b_call10_c : Ref sig .tc := ⟨.hbm, 319, rfl⟩
abbrev main_while0b_call10_c_0 : Ref sig .tc := ⟨.hbm, 320, rfl⟩
abbrev main_while0b_call10_v0 : Ref sig .tc := ⟨.hbm, 321, rfl⟩
abbrev main_while0b_v255 : Ref sig .tc := ⟨.hbm, 322, rfl⟩
abbrev main_while0b_call11_c : Ref sig .tc := ⟨.hbm, 323, rfl⟩
abbrev main_while0b_call11_c_0 : Ref sig .tc := ⟨.hbm, 324, rfl⟩
abbrev main_while0b_call11_v0 : Ref sig .tc := ⟨.hbm, 325, rfl⟩
abbrev main_while0b_v256 : Ref sig .tc := ⟨.hbm, 326, rfl⟩
abbrev main_while0b_call12_c : Ref sig .tc := ⟨.hbm, 327, rfl⟩
abbrev main_while0b_call12_c_0 : Ref sig .tc := ⟨.hbm, 328, rfl⟩
abbrev main_while0b_call12_v0 : Ref sig .tc := ⟨.hbm, 329, rfl⟩
abbrev main_while0b_v257 : Ref sig .tc := ⟨.hbm, 330, rfl⟩
abbrev main_while0b_call13_c : Ref sig .tc := ⟨.hbm, 331, rfl⟩
abbrev main_while0b_call13_c_0 : Ref sig .tc := ⟨.hbm, 332, rfl⟩
abbrev main_while0b_call13_v0 : Ref sig .tc := ⟨.hbm, 333, rfl⟩
abbrev main_while0b_v258 : Ref sig .tc := ⟨.hbm, 334, rfl⟩
abbrev main_while0b_v259 : Ref sig .tc := ⟨.hbm, 335, rfl⟩
abbrev main_while0b_v260 : Ref sig .tc := ⟨.hbm, 336, rfl⟩
abbrev main_while0b_v261 : Ref sig .tc := ⟨.hbm, 337, rfl⟩
abbrev main_while0b_v262 : Ref sig .tc := ⟨.hbm, 338, rfl⟩
abbrev main_while0b_v263 : Ref sig .tc := ⟨.hbm, 339, rfl⟩
abbrev main_while0b_v264 : Ref sig .tc := ⟨.hbm, 340, rfl⟩
abbrev main_while0b_v265 : Ref sig .tc := ⟨.hbm, 341, rfl⟩
abbrev main_while0b_v266 : Ref sig .tc := ⟨.hbm, 342, rfl⟩
abbrev main_while0b_v267 : Ref sig .tc := ⟨.hbm, 343, rfl⟩
abbrev main_while0b_cst_43 : Ref sig .tc := ⟨.hbm, 344, rfl⟩
abbrev main_while0b_v268 : Ref sig .tc := ⟨.hbm, 345, rfl⟩
abbrev main_while0b_v269 : Ref sig .tc := ⟨.hbm, 346, rfl⟩
abbrev main_while0b_cst_44 : Ref sig .tc := ⟨.hbm, 347, rfl⟩
abbrev main_while0b_v270 : Ref sig .tc := ⟨.hbm, 348, rfl⟩
abbrev main_while0b_v271 : Ref sig .tc := ⟨.hbm, 349, rfl⟩
abbrev main_while0b_v272 : Ref sig .tc := ⟨.hbm, 350, rfl⟩
abbrev main_while0b_v273 : Ref sig .tc := ⟨.hbm, 351, rfl⟩
abbrev main_while0b_v274 : Ref sig .tc := ⟨.hbm, 352, rfl⟩
abbrev main_while0b_v275 : Ref sig .tc := ⟨.hbm, 353, rfl⟩
abbrev main_while0b_cst_45 : Ref sig .tc := ⟨.hbm, 354, rfl⟩
abbrev main_while0b_v276 : Ref sig .tc := ⟨.hbm, 355, rfl⟩
abbrev main_while0b_v277 : Ref sig .tc := ⟨.hbm, 356, rfl⟩
abbrev main_while0b_cst_46 : Ref sig .tc := ⟨.hbm, 357, rfl⟩
abbrev main_while0b_v278 : Ref sig .tc := ⟨.hbm, 358, rfl⟩
abbrev main_while0b_v279 : Ref sig .tc := ⟨.hbm, 359, rfl⟩
abbrev main_while0b_v280 : Ref sig .tc := ⟨.hbm, 360, rfl⟩
abbrev main_while0b_call14_v0 : Ref sig .tc := ⟨.hbm, 361, rfl⟩
abbrev main_while0b_call14_c : Ref sig .tc := ⟨.hbm, 362, rfl⟩
abbrev main_while0b_call14_c_0 : Ref sig .tc := ⟨.hbm, 363, rfl⟩
abbrev main_while0b_v281 : Ref sig .tc := ⟨.hbm, 364, rfl⟩
abbrev main_while0b_call15_v0 : Ref sig .tc := ⟨.hbm, 365, rfl⟩
abbrev main_while0b_call15_c : Ref sig .tc := ⟨.hbm, 366, rfl⟩
abbrev main_while0b_call15_c_0 : Ref sig .tc := ⟨.hbm, 367, rfl⟩
abbrev main_while0b_v282 : Ref sig .tc := ⟨.hbm, 368, rfl⟩
abbrev main_while0b_call16_v0 : Ref sig .tc := ⟨.hbm, 369, rfl⟩
abbrev main_while0b_call16_c : Ref sig .tc := ⟨.hbm, 370, rfl⟩
abbrev main_while0b_call16_c_0 : Ref sig .tc := ⟨.hbm, 371, rfl⟩
abbrev main_while0b_v283 : Ref sig .tc := ⟨.hbm, 372, rfl⟩
abbrev main_while0b_call17_v0 : Ref sig .tc := ⟨.hbm, 373, rfl⟩
abbrev main_while0b_call17_c : Ref sig .tc := ⟨.hbm, 374, rfl⟩
abbrev main_while0b_call17_c_0 : Ref sig .tc := ⟨.hbm, 375, rfl⟩
abbrev main_while0b_v284 : Ref sig .tc := ⟨.hbm, 376, rfl⟩
abbrev main_while0b_call18_v0 : Ref sig .tc := ⟨.hbm, 377, rfl⟩
abbrev main_while0b_call18_c : Ref sig .tc := ⟨.hbm, 378, rfl⟩
abbrev main_while0b_call18_c_0 : Ref sig .tc := ⟨.hbm, 379, rfl⟩
abbrev main_while0b_v285 : Ref sig .tc := ⟨.hbm, 380, rfl⟩
abbrev main_while0b_call19_v0 : Ref sig .tc := ⟨.hbm, 381, rfl⟩
abbrev main_while0b_call19_c : Ref sig .tc := ⟨.hbm, 382, rfl⟩
abbrev main_while0b_call19_c_0 : Ref sig .tc := ⟨.hbm, 383, rfl⟩
abbrev main_while0b_v286 : Ref sig .tc := ⟨.hbm, 384, rfl⟩
abbrev main_while0b_c_47 : Ref sig .tc := ⟨.hbm, 385, rfl⟩
abbrev main_while0b_v287 : Ref sig .tc := ⟨.hbm, 386, rfl⟩
abbrev main_v216 : Ref sig .tc := ⟨.hbm, 387, rfl⟩
abbrev main_v217 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_v226 : Ref sig .tc := ⟨.hbm, 397, rfl⟩
abbrev main_v227 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_v233 : Ref sig .tc := ⟨.hbm, 404, rfl⟩
abbrev main_v234 : Ref sig .tc := ⟨.hbm, 405, rfl⟩
abbrev main_v235 : Ref sig .tc := ⟨.hbm, 406, rfl⟩
abbrev main_v236 : Ref sig .tc := ⟨.hbm, 407, rfl⟩
abbrev main_v237 : Ref sig .tc := ⟨.hbm, 408, rfl⟩
abbrev main_v238 : Ref sig .tc := ⟨.hbm, 409, rfl⟩
abbrev main_v239 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩

abbrev nD : Nat := 1
abbrev τ : Topo := Topo.v7x

variable {F : FTy → Type} [FloatOps F]

abbrev main_while0_count : Scf.Loop 32 := ⟨0#32, 64#32, 1#32⟩
-- ==== Proof.Model.lean ====
/- The projection kernel's block, written once as functions of the blocks its point reads: the normalised slabs, the
   parked gate products, the convolutions, the recurrence coefficients and the scans over the 64 steps of a chunk. -/
module

public import proofs.«01_k».proof.Proof.Gen.KernelIdeal.Frame
public import proofs.«01_k».proof.Proof.Gen.KernelIdeal.Skeleton
public import Idealize.ShloMosaic.Lib.Pipeline.StridedRows

@[expose] public section

set_option maxRecDepth 16384

noncomputable section

namespace Cert.KernelIdeal.Model

open Idealize.ShloMosaic Idealize.ShloMosaic.TcCoe Idealize.SL.Sem Cert.KernelIdeal Cert.KernelIdeal.Gen
open Idealize.ShloMosaic.StridedRows

variable {F : FTy → Type} [FloatOps F] [Named F]

/-- A box at offset `o` inside an axis of `n` that holds `k` more. -/
theorem box2 {a b c d : ℕ} (o p : ℕ) (h : o + c ≤ a) (h' : p + d ≤ b) :
    ∀ i : Fin 2, (![o, p] : Fin 2 → ℕ) i + (![c, d] : Fin 2 → ℕ) i ≤ (![a, b] : Fin 2 → ℕ) i
  | ⟨0, _⟩ => h
  | ⟨1, _⟩ => h'

theorem box3 {a b c d e f : ℕ} (o p q : ℕ) (h : o + d ≤ a) (h' : p + e ≤ b) (h'' : q + f ≤ c) :
    ∀ i : Fin 3, (![o, p, q] : Fin 3 → ℕ) i + (![d, e, f] : Fin 3 → ℕ) i ≤ (![a, b, c] : Fin 3 → ℕ) i
  | ⟨0, _⟩ => h
  | ⟨1, _⟩ => h'
  | ⟨2, _⟩ => h''

theorem box4 {a b c d e f g k : ℕ} (o p q r : ℕ) (h : o + e ≤ a) (h' : p + f ≤ b) (h'' : q + g ≤ c) (h''' : r + k ≤ d) :
    ∀ i : Fin 4, (![o, p, q, r] : Fin 4 → ℕ) i + (![e, f, g, k] : Fin 4 → ℕ) i ≤ (![a, b, c, d] : Fin 4 → ℕ) i
  | ⟨0, _⟩ => h
  | ⟨1, _⟩ => h'
  | ⟨2, _⟩ => h''
  | ⟨3, _⟩ => h'''

theorem sl2 {a b c d : ℕ} (o p : ℕ) (h : o + c ≤ a) (h' : p + d ≤ b) :
    Shape.Slices ⟨2, ![a, b]⟩ ![o, p] ⟨2, ![c, d]⟩ := ⟨rfl, box2 o p h h'⟩

variable (F) in
/-- What a point reads: its eleven blocks, and the view of the scratch. -/
structure In where
  v : View sig .tc .vmem S16x512x128 .f32
  X0 : Vec F S8x64x2048 .f32
  X1 : Vec F S1x2048 .f32
  X2 : Vec F S8x6144 .f32
  X3 : Vec F S2048x6144 .bf16
  X4 : Vec F S3x1024 .f32
  X5 : Vec F S4x1024 .f32
  X6 : Vec F S1x1024 .f32
  X7 : Vec F S2x4x256x512 .bf16
  X8 : Vec F S2x1024 .f32
  X9 : Vec F S2x1024 .f32
  X10 : Vec F S2x1024 .f32

variable (E : In F)

abbrev k1 : F .f32 := Scalar.ofBits .f32 0x3F800000#32
abbrev k0 : F .f32 := Scalar.ofBits .f32 0x00000000#32
abbrev kh : F .f32 := Scalar.ofBits .f32 0x3F000000#32

/-! ## The normalised block -/

def scaleM : FVec F S1x2048 .f32 :=
  mulf (View.ld (Val := Elt F) E.X1 (Rect.unit (s := S1x2048) ![0, 0] S1x2048.size (box2 0 0 (by decide) (by decide))))
    (addf (broadcast S1x2048 k1) (View.ld (Val := Elt F) E.X2 (Rect.unit (s := S8x6144) ![0, 2048] S1x2048.size (box2 0 2048 (by decide) (by decide)))))

def shiftM : FVec F S1x2048 .f32 :=
  View.ld (Val := Elt F) E.X2 (Rect.unit (s := S8x6144) ![0, 0] S1x2048.size (box2 0 0 (by decide) (by decide)))

def segM (s : Fin 8) : FVec F S64x2048 .f32 :=
  shapeCast S64x2048 (View.ld (Val := Elt F) E.X0 (Rect.unit (s := S8x64x2048) ![s.val, 0, 0] S1x64x2048.size
    (box3 s.val 0 0 (by have := s.isLt; omega) (by decide) (by decide)))) shapeCasts_S1x64x2048_S64x2048

def invM (s : Fin 8) : FVec F S64x1 .f32 :=
  rsqrt (addf (divf (shapeCast S64x1 (multiReduction .add [1] S64 (mulf (segM E s) (segM E s)) 0x00000000#32
    reduces_S64x2048_S64 (.inl rfl) rfl) shapeCasts_S64_S64x1) (broadcast S64x1 (Scalar.ofBits .f32 0x45000000#32)))
    (broadcast S64x1 (Scalar.ofBits .f32 0x358637BD#32)))

def slabRow (c : Fin 16) (s : Fin 8) : FVec F S1x64x128 .f32 :=
  shapeCast S1x64x128 (addf (mulf (mulf
      (shapeCast S64x128 (View.ld (Val := Elt F) E.X0 (Rect.unit (s := S8x64x2048) ![s.val, 0, 128 * c.val] S1x64x128.size
        (box3 s.val 0 (128 * c.val) (by have := s.isLt; omega) (by decide) (by have := c.isLt; omega)))) shapeCasts_S1x64x128_S64x128)
      (broadcastTo S64x128 (invM E s) broadcasts_S64x1_S64x128))
      (broadcastTo S64x128 (extractStridedSlice S1x128 ![0, 128 * c.val] (scaleM E)
        (sl2 0 (128 * c.val) (by decide) (by have := c.isLt; omega))) broadcasts_S1x128_S64x128))
      (broadcastTo S64x128 (extractStridedSlice S1x128 ![0, 128 * c.val] (shiftM E)
        (sl2 0 (128 * c.val) (by decide) (by have := c.isLt; omega))) broadcasts_S1x128_S64x128))
    shapeCasts_S64x128_S1x64x128

/-- The stores of the first `n` normalised rows, newest first: slab by slab, in a slab the eight segments. -/
def rowPieces : ℕ → List (View.Piece (Elt F) S16x512x128 .f32)
  | 0 => []
  | n + 1 => ⟨rowRect (C := 16) (N := 64) (DP := 8) (D := 8) (L := 128) (Nat.le_refl 8) ⟨n / 8 % 16, Nat.mod_lt _ (by decide)⟩ ⟨n % 8, Nat.mod_lt _ (by decide)⟩,
      slabRow E ⟨n / 8 % 16, Nat.mod_lt _ (by decide)⟩ ⟨n % 8, Nat.mod_lt _ (by decide)⟩⟩ :: rowPieces n

/-- The box of one slab. -/
abbrev slabBox (c : Fin 16) : Rect S16x512x128 :=
  Rect.unit (s := S16x512x128) ![c.val, 0, 0] S1x512x128.size (box3 c.val 0 0 (by have := c.isLt; omega) (by decide) (by decide))

def slab (c : Fin 16) : FVec F S512x128 .bf16 :=
  truncf .bf16 (shapeCast S512x128 (E.v.readCov (rowPieces E (8 * c.val + 8)) (slabBox c).toLoadRect) shapeCasts_S1x512x128_S512x128) bitsLt_bf16_f32

theorem cat16 : Shape.Concatenates ((List.ofFn fun _ : Fin 16 => (⟨S512x128, fun _ => ()⟩ : (s : Shape) × (s.Idx → Unit))).map (·.1)) S512x2048 1 :=
  concatenates_S512x128_S512x128_S512x128_S512x128_S512x128_S512x128_S512x128_S512x128_S512x128_S512x128_S512x128_S512x128_S512x128_S512x128_S512x128_S512x128_S512x2048_d1

def hlM : FVec F S512x2048 .bf16 :=
  concatenate S512x2048 1 (List.ofFn fun c : Fin 16 => (⟨S512x128, slab E c⟩ : (s : Shape) × (s.Idx → F .bf16))) cat16

/-! ## The products -/

def v0M (hl : FVec F S512x2048 .bf16) : FVec F S512x256 .f32 :=
  matmul dot_S512x2048_S2048x256_S512x256_1_0_0_1_n_n none hl
    (shapeCast S2048x256 (View.ld (Val := Elt F) E.X3 (Rect.unit (s := S2048x6144) ![0, 4608] S2048x256.size (box2 0 4608 (by decide) (by decide))))
      shapeCasts_S2048x256_S2048x256) (constant S512x256 .f32 0x00000000#32)

def wideM (hl : FVec F S512x2048 .bf16) (g : Fin 3) : FVec F S512x1536 .f32 :=
  matmul dot_S512x2048_S2048x1536_S512x1536_1_0_0_1_n_n none hl
    (shapeCast S2048x1536 (View.ld (Val := Elt F) E.X3 (Rect.unit (s := S2048x6144) ![0, 1536 * g.val] S2048x1536.size
      (box2 0 (1536 * g.val) (by decide) (by have := g.isLt; omega)))) shapeCasts_S2048x1536_S2048x1536) (constant S512x1536 .f32 0x00000000#32)

def wide3M (hl : FVec F S512x2048 .bf16) : FVec F S512x1280 .f32 :=
  matmul dot_S512x2048_S2048x1280_S512x1280_1_0_0_1_n_n none hl
    (shapeCast S2048x1280 (View.ld (Val := Elt F) E.X3 (Rect.unit (s := S2048x6144) ![0, 4864] S2048x1280.size
      (box2 0 4864 (by decide) (by decide)))) shapeCasts_S2048x1280_S2048x1280) (constant S512x1280 .f32 0x00000000#32)

/-- Part `j` of a group's product: the next group's scan input, then q, c, u, b and the gate. -/
def partM (hl : FVec F S512x2048 .bf16) (g : Fin 3) (j : Fin 6) : FVec F S512x256 .f32 :=
  extractStridedSlice S512x256 ![0, 256 * j.val] (wideM E hl g) (sl2 0 (256 * j.val) (by decide) (by have := j.isLt; omega))

def part3M (hl : FVec F S512x2048 .bf16) (j : Fin 5) : FVec F S512x256 .f32 :=
  extractStridedSlice S512x256 ![0, 256 * j.val] (wide3M E hl) (sl2 0 (256 * j.val) (by decide) (by have := j.isLt; omega))

/-- Group `g`'s scan input. -/
def vM (hl : FVec F S512x2048 .bf16) : Fin 4 → FVec F S512x256 .f32
  | ⟨0, _⟩ => v0M E hl
  | ⟨1, _⟩ => partM E hl ⟨0, by decide⟩ ⟨0, by decide⟩
  | ⟨2, _⟩ => partM E hl ⟨1, by decide⟩ ⟨0, by decide⟩
  | ⟨3, _⟩ => partM E hl ⟨2, by decide⟩ ⟨0, by decide⟩

/-- Group `g`'s part `j` of q, c, u, b, gate. -/
def pM (hl : FVec F S512x2048 .bf16) (j : Fin 5) : Fin 4 → FVec F S512x256 .f32
  | ⟨0, _⟩ => partM E hl ⟨0, by decide⟩ ⟨j.val + 1, by have := j.isLt; omega⟩
  | ⟨1, _⟩ => partM E hl ⟨1, by decide⟩ ⟨j.val + 1, by have := j.isLt; omega⟩
  | ⟨2, _⟩ => partM E hl ⟨2, by decide⟩ ⟨j.val + 1, by have := j.isLt; omega⟩
  | ⟨3, _⟩ => part3M E hl j

/-! ## The convolutions -/

def down16 (x : FVec F S512x256 .f32) : FVec F S512x256 .f32 :=
  concatenate S512x256 0 [⟨S16x256, broadcast S16x256 k0⟩, ⟨S496x256, extractStridedSlice S496x256 ![0, 0] x slices_S512x256_o0_0_S496x256⟩]
    concatenates_S16x256_S496x256_S512x256_d0

def down8 (x : FVec F S512x256 .f32) : FVec F S512x256 .f32 :=
  concatenate S512x256 0 [⟨S8x256, broadcast S8x256 k0⟩, ⟨S504x256, extractStridedSlice S504x256 ![0, 0] x slices_S512x256_o0_0_S504x256⟩]
    concatenates_S8x256_S504x256_S512x256_d0

def up8 (x : FVec F S512x256 .f32) : FVec F S512x256 .f32 :=
  concatenate S512x256 0 [⟨S504x256, extractStridedSlice S504x256 ![8, 0] x slices_S512x256_o8_0_S504x256⟩, ⟨S8x256, broadcast S8x256 k0⟩]
    concatenates_S504x256_S8x256_S512x256_d0

def convB (g : Fin 4) (x : FVec F S512x256 .f32) : FVec F S512x256 .f32 :=
  let w : FVec F S4x256 .f32 := shapeCast S4x256 (View.ld (Val := Elt F) E.X5 (Rect.unit (s := S4x1024) ![0, 256 * g.val] S4x256.size
    (box2 0 (256 * g.val) (by decide) (by have := g.isLt; omega)))) shapeCasts_S4x256_S4x256
  addf (addf (addf (mulf (down16 x) (broadcastTo S512x256 (extractStridedSlice S1x256 ![0, 0] w slices_S4x256_o0_0_S1x256) broadcasts_S1x256_S512x256))
      (mulf (down8 x) (broadcastTo S512x256 (extractStridedSlice S1x256 ![1, 0] w slices_S4x256_o1_0_S1x256) broadcasts_S1x256_S512x256)))
      (mulf x (broadcastTo S512x256 (extractStridedSlice S1x256 ![2, 0] w slices_S4x256_o2_0_S1x256) broadcasts_S1x256_S512x256)))
      (mulf (up8 x) (broadcastTo S512x256 (extractStridedSlice S1x256 ![3, 0] w slices_S4x256_o3_0_S1x256) broadcasts_S1x256_S512x256))

def xbM (g : Fin 4) (x : FVec F S512x256 .f32) : FVec F S512x256 .f32 :=
  addf (convB E g x) (broadcastTo S512x256 (View.ld (Val := Elt F) E.X6 (Rect.unit (s := S1x1024) ![0, 256 * g.val] S1x256.size
    (box2 0 (256 * g.val) (by decide) (by have := g.isLt; omega)))) broadcasts_S1x256_S512x256)

def convA (g : Fin 4) (x : FVec F S512x256 .f32) : FVec F S512x256 .f32 :=
  let w : FVec F S3x256 .f32 := shapeCast S3x256 (View.ld (Val := Elt F) E.X4 (Rect.unit (s := S3x1024) ![0, 256 * g.val] S3x256.size
    (box2 0 (256 * g.val) (by decide) (by have := g.isLt; omega)))) shapeCasts_S3x256_S3x256
  addf (addf (mulf (down8 x) (broadcastTo S512x256 (extractStridedSlice S1x256 ![0, 0] w slices_S3x256_o0_0_S1x256) broadcasts_S1x256_S512x256))
      (mulf x (broadcastTo S512x256 (extractStridedSlice S1x256 ![1, 0] w slices_S3x256_o1_0_S1x256) broadcasts_S1x256_S512x256)))
      (mulf (up8 x) (broadcastTo S512x256 (extractStridedSlice S1x256 ![2, 0] w slices_S3x256_o2_0_S1x256) broadcasts_S1x256_S512x256))

def siluM (x : FVec F S512x256 .f32) : FVec F S512x256 .f32 :=
  addf (mulf (mulf (broadcast S512x256 kh) x) (tanh (mulf (broadcast S512x256 kh) x))) (mulf (broadcast S512x256 kh) x)

def yaM (g : Fin 4) (c u b w : FVec F S512x256 .f32) : FVec F S512x256 .bf16 :=
  truncf .bf16 (mulf (mulf b (convA E g (mulf c u))) (siluM w)) bitsLt_bf16_f32

/-! ## The gates -/

theorem cast256 : S1x1x256x512.ShapeCasts S256x512 := by decide

def wbM (d : Fin 2) (g : Fin 4) (p : Fin 2) : FVec F S256x256 .bf16 :=
  View.ld (Val := Elt F) (S := S256x512) (shapeCast S256x512 (View.ld (Val := Elt F) E.X7 (Rect.unit (s := S2x4x256x512) ![d.val, g.val, 0, 0] S1x1x256x512.size
    (box4 d.val g.val 0 0 (by have := d.isLt; omega) (by have := g.isLt; omega) (by decide) (by decide)))) cast256)
    (Rect.unit (s := S256x512) ![0, 256 * p.val] S256x256.size (box2 0 (256 * p.val) (by decide) (by have := p.isLt; omega)))

def preM (d : Fin 2) (g : Fin 4) (p : Fin 2) (xb : FVec F S512x256 .f32) : FVec F S512x256 .f32 :=
  matmul dot_S512x256_S256x256_S512x256_1_0_0_1_n_n none (truncf .bf16 xb bitsLt_bf16_f32)
    (shapeCast S256x256 (wbM E d g p) shapeCasts_S256x256_S256x256) (constant S512x256 .f32 0x00000000#32)

/-- A parked half product. -/
def parkM (d : Fin 2) (g : Fin 4) (p j : Fin 2) (xb : FVec F S512x256 .f32) : FVec F S1x512x128 .f32 :=
  shapeCast S1x512x128 (extractStridedSlice S512x128 ![0, 128 * j.val] (preM E d g p xb)
    (sl2 0 (128 * j.val) (by decide) (by have := j.isLt; omega))) shapeCasts_S512x128_S1x512x128

/-- The stores of the scratch after `n` parked halves, newest first. -/
def parkPieces (xb : Fin 4 → FVec F S512x256 .f32) : ℕ → List (View.Piece (Elt F) S16x512x128 .f32)
  | 0 => rowPieces E 128
  | n + 1 => ⟨slabBox ⟨n % 16, Nat.mod_lt _ (by decide)⟩,
      parkM E ⟨n / 4 % 2, Nat.mod_lt _ (by decide)⟩ ⟨n / 8 % 4, Nat.mod_lt _ (by decide)⟩ ⟨n / 2 % 2, Nat.mod_lt _ (by decide)⟩ ⟨n % 2, Nat.mod_lt _ (by decide)⟩
        (xb ⟨n / 8 % 4, Nat.mod_lt _ (by decide)⟩)⟩ :: parkPieces xb n

/-- The parked product of direction `d`, gate `p` read back. -/
def unparkM (xb : Fin 4 → FVec F S512x256 .f32) (d : Fin 2) (g : Fin 4) (p : Fin 2) : FVec F S512x256 .f32 :=
  concatenate S512x256 1
    [⟨S512x128, shapeCast S512x128 (E.v.readCov (parkPieces E xb (8 * g.val + 8))
        (slabBox ⟨(8 * g.val + 4 * d.val + 2 * p.val) % 16, Nat.mod_lt _ (by decide)⟩).toLoadRect) shapeCasts_S1x512x128_S512x128⟩,
     ⟨S512x128, shapeCast S512x128 (E.v.readCov (parkPieces E xb (8 * g.val + 8))
        (slabBox ⟨(8 * g.val + 4 * d.val + 2 * p.val + 1) % 16, Nat.mod_lt _ (by decide)⟩).toLoadRect) shapeCasts_S1x512x128_S512x128⟩]
    concatenates_S512x128_S512x128_S512x256_d1

def hc8M : FVec F S2x1024 .f32 :=
  let z : FVec F S2x1024 .f32 := subf (broadcast S2x1024 k0) (shapeCast S2x1024 (View.ld (Val := Elt F) E.X10 (Rect.unit (s := S2x1024) ![0, 0] S2x1024.size
    (box2 0 0 (by decide) (by decide)))) shapeCasts_S2x1024_S2x1024)
  mulf (broadcast S2x1024 (Scalar.ofBits .f32 0x40800000#32)) (addf (maximumf z (broadcast S2x1024 k0))
    (log1p (exp (subf (broadcast S2x1024 k0) (absf z)))))

def halfM (X : Vec F S2x1024 .f32) : FVec F S2x1024 .f32 :=
  mulf (broadcast S2x1024 kh) (shapeCast S2x1024 (View.ld (Val := Elt F) X (Rect.unit (s := S2x1024) ![0, 0] S2x1024.size
    (box2 0 0 (by decide) (by decide)))) shapeCasts_S2x1024_S2x1024)

def rowM (d : Fin 2) (g : Fin 4) (x : FVec F S2x1024 .f32) : FVec F S512x256 .f32 :=
  broadcastTo S512x256 (extractStridedSlice S1x256 ![d.val, 256 * g.val] x
    (sl2 d.val (256 * g.val) (by have := d.isLt; omega) (by have := g.isLt; omega))) broadcasts_S1x256_S512x256

def uM (pr hba hc : FVec F S512x256 .f32) : FVec F S512x256 .f32 := addf (mulf (tanh (addf pr hba)) hc) hc

def aM (u : FVec F S512x256 .f32) : FVec F S512x256 .f32 := exp2 (mulf u (broadcast S512x256 (Named.named κ "nlog2e" 0xBFB8AA3B#32)))

def bM (u a pi hbx xh : FVec F S512x256 .f32) : FVec F S512x256 .f32 :=
  let om := mulf (tanh u) (addf (broadcast S512x256 k1) (mulf a a))
  mulf (select (cmpf .ogt om (broadcast S512x256 k0)) (mulf om (rsqrt om)) (broadcast S512x256 k0))
    (mulf (addf (tanh (addf pi hbx)) (broadcast S512x256 k1)) xh)

/-! ## The scans of a chunk -/

def stepM (x : FVec F S512x256 .f32) (t : ℕ) (h : t < 64) : FVec F S8x256 .f32 :=
  extractStridedSlice S8x256 ![8 * t, 0] x (sl2 (8 * t) 0 (by omega) (by decide))

/-- The state after step `t`, from zero; -/
def fwdH (a b : FVec F S512x256 .f32) : (t : ℕ) → t < 64 → FVec F S8x256 .f32
  | 0, h => stepM b 0 h
  | t + 1, h => addf (mulf (stepM a (t + 1) h) (fwdH a b t (Nat.lt_of_succ_lt h))) (stepM b (t + 1) h)

/-- the product of the coefficients up to step `t`; -/
def fwdP (a : FVec F S512x256 .f32) : (t : ℕ) → t < 64 → FVec F S8x256 .f32
  | 0, h => stepM a 0 h
  | t + 1, h => mulf (stepM a (t + 1) h) (fwdP a t (Nat.lt_of_succ_lt h))

/-- and the same from the last step down, `t` steps before the last. -/
def revH (a b : FVec F S512x256 .f32) : (t : ℕ) → t < 64 → FVec F S8x256 .f32
  | 0, _ => stepM b 63 (by decide)
  | t + 1, h => addf (mulf (stepM a (63 - (t + 1)) (by omega)) (revH a b t (Nat.lt_of_succ_lt h))) (stepM b (63 - (t + 1)) (by omega))

def revP (a : FVec F S512x256 .f32) : (t : ℕ) → t < 64 → FVec F S8x256 .f32
  | 0, _ => stepM a 63 (by decide)
  | t + 1, h => mulf (stepM a (63 - (t + 1)) (by omega)) (revP a t (Nat.lt_of_succ_lt h))

theorem cat64 : Shape.Concatenates ((List.ofFn fun _ : Fin 64 => (⟨S8x256, fun _ => ()⟩ : (s : Shape) × (s.Idx → Unit))).map (·.1)) S512x256 0 := by
  decide +kernel

def allM (f : (t : ℕ) → t < 64 → FVec F S8x256 .f32) : FVec F S512x256 .f32 :=
  concatenate S512x256 0 (List.ofFn fun t : Fin 64 => (⟨S8x256, f t.val t.isLt⟩ : (s : Shape) × (s.Idx → F .f32))) cat64

def allR (f : (t : ℕ) → t < 64 → FVec F S8x256 .f32) : FVec F S512x256 .f32 :=
  concatenate S512x256 0 (List.ofFn fun t : Fin 64 => (⟨S8x256, f (63 - t.val) (by omega)⟩ : (s : Shape) × (s.Idx → F .f32))) cat64

/-! ## A group -/

section group
variable (g : Fin 4)

def XB (g : Fin 4) : FVec F S512x256 .f32 := xbM E g (vM E (hlM E) g)
def XH : FVec F S512x256 .f32 := mulf (broadcast S512x256 kh) (XB E g)
def PRE (d p : Fin 2) : FVec F S512x256 .f32 := unparkM E (XB E) d g p
def UU (d : Fin 2) : FVec F S512x256 .f32 := uM (PRE E g d 0) (rowM d g (halfM E.X8)) (rowM d g (hc8M E))
def AA (d : Fin 2) : FVec F S512x256 .f32 := aM (UU E g d)
def BB (d : Fin 2) : FVec F S512x256 .f32 := bM (UU E g d) (AA E g d) (PRE E g d 1) (rowM d g (halfM E.X9)) (XH E g)
def SQ : FVec F S512x256 .f32 := siluM (pM E (hlM E) 0 g)
def YA : FVec F S512x256 .bf16 := yaM E g (pM E (hlM E) 1 g) (pM E (hlM E) 2 g) (pM E (hlM E) 3 g) (pM E (hlM E) 4 g)
def HF : FVec F S512x256 .f32 := allM (fwdH (AA E g 0) (BB E g 0))
def PF : FVec F S512x256 .f32 := allM (fwdP (AA E g 0))
def HR : FVec F S512x256 .f32 := allR (revH (AA E g 1) (BB E g 1))
def PR : FVec F S512x256 .f32 := allR (revP (AA E g 1))
def SS : FVec F S512x256 .bf16 := truncf .bf16 (mulf (addf (HF E g) (HR E g)) (SQ E g)) bitsLt_bf16_f32
def PFS : FVec F S512x256 .bf16 := truncf .bf16 (mulf (PF E g) (SQ E g)) bitsLt_bf16_f32
def PRS : FVec F S512x256 .bf16 := truncf .bf16 (mulf (PR E g) (SQ E g)) bitsLt_bf16_f32

/-- The chunk's summary: the last states and products of both directions. -/
def END : Fin 4 → FVec F S8x256 .f32
  | ⟨0, _⟩ => fwdH (AA E g 0) (BB E g 0) 63 (by decide)
  | ⟨1, _⟩ => fwdP (AA E g 0) 63 (by decide)
  | ⟨2, _⟩ => revH (AA E g 1) (BB E g 1) 63 (by decide)
  | ⟨3, _⟩ => revP (AA E g 1) 63 (by decide)

end group

/-! ## The stores of the five outputs -/

def colBox (g : Fin 4) : Rect S512x1024 :=
  Rect.unit (s := S512x1024) ![0, 256 * g.val] S512x256.size (box2 0 (256 * g.val) (by decide) (by have := g.isLt; omega))

def colPieces (f : Fin 4 → FVec F S512x256 .bf16) : List (View.Piece (Elt F) S512x1024 .bf16) :=
  [⟨colBox 3, f 3⟩, ⟨colBox 2, f 2⟩, ⟨colBox 1, f 1⟩, ⟨colBox 0, f 0⟩]

def sumBox (g k : Fin 4) : Rect S1x4x8x1024 :=
  Rect.unit (s := S1x4x8x1024) ![0, k.val, 0, 256 * g.val] S1x1x8x256.size
    (box4 0 k.val 0 (256 * g.val) (by decide) (by have := k.isLt; omega) (by decide) (by have := g.isLt; omega))

def sumPieces : List (View.Piece (Elt F) S1x4x8x1024 .f32) :=
  (List.range 16).reverse.map fun n => ⟨sumBox ⟨n / 4 % 4, Nat.mod_lt _ (by decide)⟩ ⟨n % 4, Nat.mod_lt _ (by decide)⟩,
    shapeCast S1x1x8x256 (END E ⟨n / 4 % 4, Nat.mod_lt _ (by decide)⟩ ⟨n % 4, Nat.mod_lt _ (by decide)⟩) shapeCasts_S8x256_S1x1x8x256⟩

end Cert.KernelIdeal.Model

end
-- ==== Proof.Kit.lean ====
/- Reading a load, a slice, a reshape and a concatenation at an index, at any sizes. -/
module

public import Idealize.ShloMosaic.Lib.Pointwise
public import Idealize.ShloMosaic.Lib.Pipeline.StridedRows

@[expose] public section

noncomputable section

namespace Cert.Kit

open Idealize.ShloMosaic Idealize.ShloMosaic.TcCoe Idealize.SL.Sem

variable {α : Type}

theorem ld2 {Val : EltTy → Type} {e : EltTy} {a b c d : ℕ} (X : (⟨2, ![a, b]⟩ : Shape).Idx → Val e) (o p : ℕ)
    (h : ∀ i, (![o, p] : Fin 2 → ℕ) i + (![c, d] : Fin 2 → ℕ) i ≤ (![a, b] : Fin 2 → ℕ) i) (i : Fin c) (j : Fin d)
    (hi : o + i.val < a) (hj : p + j.val < b) :
    View.ld (Val := Val) (S := ⟨2, ![a, b]⟩) X (Rect.unit (s := ⟨2, ![a, b]⟩) ![o, p] ![c, d] h) (ix2 i j) = X (ix2 ⟨o + i, hi⟩ ⟨p + j, hj⟩) := by
  refine congrArg X (funext fun k => ?_)
  match k with
  | ⟨0, _⟩ => exact Fin.ext (by show o + 1 * i.val = o + i.val; omega)
  | ⟨1, _⟩ => exact Fin.ext (by show p + 1 * j.val = p + j.val; omega)

theorem ld3 {Val : EltTy → Type} {e : EltTy} {a b c a' b' c' : ℕ} (X : (⟨3, ![a, b, c]⟩ : Shape).Idx → Val e) (o p q : ℕ)
    (h : ∀ i, (![o, p, q] : Fin 3 → ℕ) i + (![a', b', c'] : Fin 3 → ℕ) i ≤ (![a, b, c] : Fin 3 → ℕ) i) (i : Fin a') (j : Fin b') (k : Fin c')
    (hi : o + i.val < a) (hj : p + j.val < b) (hk : q + k.val < c) :
    View.ld (Val := Val) (S := ⟨3, ![a, b, c]⟩) X (Rect.unit (s := ⟨3, ![a, b, c]⟩) ![o, p, q] ![a', b', c'] h) (ix3 i j k)
      = X (ix3 ⟨o + i, hi⟩ ⟨p + j, hj⟩ ⟨q + k, hk⟩) := by
  refine congrArg X (funext fun k' => ?_)
  match k' with
  | ⟨0, _⟩ => exact Fin.ext (by show o + 1 * i.val = o + i.val; omega)
  | ⟨1, _⟩ => exact Fin.ext (by show p + 1 * j.val = p + j.val; omega)
  | ⟨2, _⟩ => exact Fin.ext (by show q + 1 * k.val = q + k.val; omega)

theorem ld4 {Val : EltTy → Type} {e : EltTy} {a b c d a' b' c' d' : ℕ} (X : (⟨4, ![a, b, c, d]⟩ : Shape).Idx → Val e) (o p q r : ℕ)
    (h : ∀ i, (![o, p, q, r] : Fin 4 → ℕ) i + (![a', b', c', d'] : Fin 4 → ℕ) i ≤ (![a, b, c, d] : Fin 4 → ℕ) i)
    (i : Fin a') (j : Fin b') (k : Fin c') (l : Fin d')
    (hi : o + i.val < a) (hj : p + j.val < b) (hk : q + k.val < c) (hl : r + l.val < d) :
    View.ld (Val := Val) (S := ⟨4, ![a, b, c, d]⟩) X (Rect.unit (s := ⟨4, ![a, b, c, d]⟩) ![o, p, q, r] ![a', b', c', d'] h) (ix4 i j k l)
      = X (ix4 ⟨o + i, hi⟩ ⟨p + j, hj⟩ ⟨q + k, hk⟩ ⟨r + l, hl⟩) := by
  refine congrArg X (funext fun k' => ?_)
  match k' with
  | ⟨0, _⟩ => exact Fin.ext (by show o + 1 * i.val = o + i.val; omega)
  | ⟨1, _⟩ => exact Fin.ext (by show p + 1 * j.val = p + j.val; omega)
  | ⟨2, _⟩ => exact Fin.ext (by show q + 1 * k.val = q + k.val; omega)
  | ⟨3, _⟩ => exact Fin.ext (by show r + 1 * l.val = r + l.val; omega)

theorem slice2 {a b c d : ℕ} (x : (⟨2, ![a, b]⟩ : Shape).Idx → α) (o p : ℕ) (h : Shape.Slices ⟨2, ![a, b]⟩ ![o, p] ⟨2, ![c, d]⟩)
    (i : Fin c) (j : Fin d) (hi : o + i.val < a) (hj : p + j.val < b) :
    extractStridedSlice ⟨2, ![c, d]⟩ ![o, p] x h (ix2 i j) = x (ix2 ⟨o + i, hi⟩ ⟨p + j, hj⟩) := by
  refine congrArg x (funext fun k => ?_)
  match k with
  | ⟨0, _⟩ => exact Fin.ext (by show o + i.val = o + i.val; rfl)
  | ⟨1, _⟩ => exact Fin.ext (by show p + j.val = p + j.val; rfl)

theorem cast32 {a b : ℕ} (x : (⟨3, ![1, a, b]⟩ : Shape).Idx → α) (h : (⟨3, ![1, a, b]⟩ : Shape).ShapeCasts ⟨2, ![a, b]⟩) (i : Fin a) (j : Fin b) :
    shapeCast ⟨2, ![a, b]⟩ x h (ix2 i j) = x (ix3 0 i j) := by
  rw [Pointwise.shapeCast_apply]
  refine congrArg x (Shape.reshapeEquiv_eq_of_vals _ _ _ _ _ (rowMajor_val3 _ (a * b) b rfl rfl) (rowMajor_val2 _ b rfl) ?_)
  show 0 * (a * b) + i.val * b + j.val = i.val * b + j.val
  omega

theorem cast23 {a b : ℕ} (x : (⟨2, ![a, b]⟩ : Shape).Idx → α) (h : (⟨2, ![a, b]⟩ : Shape).ShapeCasts ⟨3, ![1, a, b]⟩) (u : Fin 1) (i : Fin a) (j : Fin b) :
    shapeCast ⟨3, ![1, a, b]⟩ x h (ix3 u i j) = x (ix2 i j) := by
  rw [Pointwise.shapeCast_apply]
  refine congrArg x (Shape.reshapeEquiv_eq_of_vals _ _ _ _ _ (rowMajor_val2 _ b rfl) (rowMajor_val3 _ (a * b) b rfl rfl) ?_)
  show i.val * b + j.val = u.val * (a * b) + i.val * b + j.val
  have := u.isLt
  have h0 : u.val = 0 := by omega
  simp [h0]

theorem cast42 {a b : ℕ} (x : (⟨4, ![1, 1, a, b]⟩ : Shape).Idx → α) (h : (⟨4, ![1, 1, a, b]⟩ : Shape).ShapeCasts ⟨2, ![a, b]⟩) (i : Fin a) (j : Fin b) :
    shapeCast ⟨2, ![a, b]⟩ x h (ix2 i j) = x (ix4 0 0 i j) := by
  rw [Pointwise.shapeCast_apply]
  refine congrArg x (Shape.reshapeEquiv_eq_of_vals _ _ _ _ _ (rowMajor_val4 _ (1 * (a * b)) (a * b) b rfl rfl rfl) (rowMajor_val2 _ b rfl) ?_)
  show 0 * (1 * (a * b)) + 0 * (a * b) + i.val * b + j.val = i.val * b + j.val
  omega

theorem cast24 {a b : ℕ} (x : (⟨2, ![a, b]⟩ : Shape).Idx → α) (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) := by
  rw [Pointwise.shapeCast_apply]
  refine congrArg x (Shape.reshapeEquiv_eq_of_vals _ _ _ _ _ (rowMajor_val2 _ b rfl) (rowMajor_val4 _ (1 * (a * b)) (a * b) b rfl rfl rfl) ?_)
  show i.val * b + j.val = u.val * (1 * (a * b)) + w.val * (a * b) + i.val * b + j.val
  have h0 : u.val = 0 := by have := u.isLt; omega
  have h1 : w.val = 0 := by have := w.isLt; omega
  simp [h0, h1]

/-- A row copied down the rows of a block. -/
theorem bcastRow {a b : ℕ} (x : (⟨2, ![1, b]⟩ : Shape).Idx → α) (h : (⟨2, ![1, b]⟩ : Shape).Broadcasts ⟨2, ![a, b]⟩) (hb : b ≠ 1) (i : Fin a) (j : Fin b) :
    broadcastTo ⟨2, ![a, b]⟩ x h (ix2 i j) = x (ix2 0 j) := by
  refine congrArg x (funext fun k => ?_)
  match k with
  | ⟨0, _⟩ => exact Fin.ext rfl
  | ⟨1, _⟩ => exact Fin.ext (by simp [hb])

theorem cat0 {m n c d : ℕ} (f : Fin m → ((⟨2, ![n, d]⟩ : Shape).Idx → α))
    (h : Shape.Concatenates ((List.ofFn fun k => (⟨⟨2, ![n, d]⟩, f k⟩ : (s : Shape) × (s.Idx → α))).map (·.1)) ⟨2, ![c, d]⟩ 0)
    (k : Fin m) (i : Fin n) (j : Fin d) (r : Fin c) (hr : r.val = n * k.val + i.val) :
    concatenate ⟨2, ![c, d]⟩ 0 (List.ofFn fun k => (⟨⟨2, ![n, d]⟩, f k⟩ : (s : Shape) × (s.Idx → α))) h (ix2 r j) = f k (ix2 i j) := by
  have hn : 0 < n := Nat.zero_lt_of_lt i.isLt
  refine concatenate_ofFn_apply (t := ⟨2, ![c, d]⟩) (s₁ := ⟨2, ![n, d]⟩) 0 f h rfl n rfl (ix2 r j) k ?_ (ix2 i j) ?_ ?_
  · show r.val / n = k.val
    rw [hr, Nat.mul_add_div hn, Nat.div_eq_of_lt i.isLt, Nat.add_zero]
  · show i.val = r.val % n
    rw [hr, Nat.mul_add_mod, Nat.mod_eq_of_lt i.isLt]
  · intro b hb
    match b with
    | ⟨0, _⟩ => exact absurd rfl hb
    | ⟨1, _⟩ => rfl

theorem cat1 {m n c d : ℕ} (f : Fin m → ((⟨2, ![c, n]⟩ : Shape).Idx → α))
    (h : Shape.Concatenates ((List.ofFn fun k => (⟨⟨2, ![c, n]⟩, f k⟩ : (s : Shape) × (s.Idx → α))).map (·.1)) ⟨2, ![c, d]⟩ 1)
    (k : Fin m) (i : Fin n) (j : Fin c) (r : Fin d) (hr : r.val = n * k.val + i.val) :
    concatenate ⟨2, ![c, d]⟩ 1 (List.ofFn fun k => (⟨⟨2, ![c, n]⟩, f k⟩ : (s : Shape) × (s.Idx → α))) h (ix2 j r) = f k (ix2 j i) := by
  have hn : 0 < n := Nat.zero_lt_of_lt i.isLt
  refine concatenate_ofFn_apply (t := ⟨2, ![c, d]⟩) (s₁ := ⟨2, ![c, n]⟩) 1 f h rfl n rfl (ix2 j r) k ?_ (ix2 j i) ?_ ?_
  · show r.val / n = k.val
    rw [hr, Nat.mul_add_div hn, Nat.div_eq_of_lt i.isLt, Nat.add_zero]
  · show i.val = r.val % n
    rw [hr, Nat.mul_add_mod, Nat.mod_eq_of_lt i.isLt]
  · intro b hb
    match b with
    | ⟨0, _⟩ => rfl
    | ⟨1, _⟩ => exact absurd rfl hb

end Cert.Kit

end
-- ==== Proof.Reads.lean ====
/- The model's values at an index, over the extended reals. -/
module

public import proofs.«01_k».proof.Proof.Model
public import proofs.«01_k».proof.Proof.Kit
public import Idealize.ShloMosaic.Lib.Pointwise

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (E : In Ideal)

theorem scale_at (l : Fin 2048) : scaleM E (ix2 0 l) = E.X1 (ix2 0 l) * (1 + E.X2 (ix2 0 ⟨2048 + l, by omega⟩)) := by
  unfold scaleM
  pointwise!

theorem shift_at (l : Fin 2048) : shiftM E (ix2 0 l) = E.X2 (ix2 0 ⟨l, by omega⟩) := by
  unfold shiftM
  pointwise!

/-- The mean square of a token, made safe, and its inverse root. -/
def msq (s : Fin 8) (t : Fin 64) : EReal :=
  Ideal.div (∑ m : Fin 2048, E.X0 (ix3 s t m) * E.X0 (ix3 s t m)) (Ideal.ofBits .f32 0x45000000#32) + Ideal.ofBits .f32 0x358637BD#32

theorem seg_at (s : Fin 8) (t : Fin 64) (m : Fin 2048) : segM E s (ix2 t m) = E.X0 (ix3 s t m) := by
  unfold segM
  refine (cast32 _ _ t m).trans ((ld3 (Val := Elt Ideal) (e := .f32) E.X0 s.val 0 0 _ 0 t m (by have := s.isLt; simp) (by have := t.isLt; simp) (by have := m.isLt; simp)).trans ?_)
  congr 1
  refine congr (congr (congrArg ix3 ?_) ?_) ?_ <;> exact Fin.ext (by simp)

theorem inv_at (s : Fin 8) (t : Fin 64) : invM E s (ix2 t 0) = Ideal.rsqrt (msq E s t) := by
  have h : invM E s (ix2 t 0) = Ideal.rsqrt (Ideal.div (∑ m : Fin 2048, segM E s (ix2 t m) * segM E s (ix2 t m)) (Ideal.ofBits .f32 0x45000000#32) + Ideal.ofBits .f32 0x358637BD#32) := by
    unfold invM
    generalize segM E s = X
    pointwise!
  rw [h]
  simp only [seg_at, msq]

/-- A normalised, scaled and shifted token entry. -/
def HL (s : Fin 8) (t : Fin 64) (m : Fin 2048) : EReal :=
  E.X0 (ix3 s t m) * Ideal.rsqrt (msq E s t) * (E.X1 (ix2 0 m) * (1 + E.X2 (ix2 0 ⟨2048 + m, by omega⟩))) + E.X2 (ix2 0 ⟨m, by omega⟩)

abbrev lane (c : Fin 16) (l : Fin 128) : Fin 2048 := ⟨128 * c + l, by omega⟩
abbrev brow (t : Fin 64) (s : Fin 8) : Fin 512 := ⟨8 * t + s, by omega⟩

theorem bcol {a b : ℕ} (x : (⟨2, ![a, 1]⟩ : Shape).Idx → EReal) (h : (⟨2, ![a, 1]⟩ : Shape).Broadcasts ⟨2, ![a, b]⟩) (ha : a ≠ 1) (i : Fin a) (j : Fin b) :
    broadcastTo ⟨2, ![a, b]⟩ x h (ix2 i j) = x (ix2 i 0) := by
  refine congrArg x (funext fun k => ?_)
  match k with
  | ⟨0, _⟩ => exact Fin.ext (by simp [ha])
  | ⟨1, _⟩ => exact Fin.ext rfl

theorem slabRow_at (c : Fin 16) (s : Fin 8) (t : Fin 64) (l : Fin 128) :
    slabRow E c s (ix3 0 t l) = HL E s t (lane c l) := by
  unfold slabRow
  refine (cast23 _ _ 0 t l).trans ?_
  show shapeCast S64x128 _ _ (ix2 t l) * broadcastTo S64x128 _ _ (ix2 t l) * broadcastTo S64x128 _ _ (ix2 t l) + broadcastTo S64x128 _ _ (ix2 t l) = _
  have hl := l.isLt; have hc := c.isLt
  have e1 := ld3 (Val := Elt Ideal) (e := .f32) E.X0 s.val 0 (128 * c.val) (box3 s.val 0 (128 * c.val) (d := 1) (e := 64) (f := 128) (by have := s.isLt; omega) (by decide) (by omega)) 0 t l (by have := s.isLt; simp) (by have := t.isLt; simp) (by omega)
  have e2 := slice2 (c := 1) (d := 128) (scaleM E) 0 (128 * c.val) (sl2 0 (128 * c.val) (by decide) (by omega)) 0 l (by decide) (by omega)
  have e3 := slice2 (c := 1) (d := 128) (shiftM E) 0 (128 * c.val) (sl2 0 (128 * c.val) (by decide) (by omega)) 0 l (by decide) (by omega)
  rw [bcol _ _ (by decide) t l, bcastRow _ _ (by decide) t l, bcastRow _ _ (by decide) t l, cast32 _ _ t l, inv_at]
  have e2' := e2.trans (scale_at E (lane c l))
  have e3' := e3.trans (shift_at E (lane c l))
  unfold HL
  refine congrArg₂ (· + ·) (congrArg₂ (· * ·) (congrArg₂ (· * ·) (e1.trans ?_) rfl) e2') e3'
  congr 1
  refine congr (congr (congrArg ix3 ?_) ?_) ?_ <;> exact Fin.ext (by simp)

/-- The scratch after the normalised rows. -/
def rowsG (y : S16x512x128.Idx) : EReal :=
  slabRow E (y 0) ⟨(y 1).val % 8, Nat.mod_lt _ (by decide)⟩ (ix3 0 ⟨(y 1).val / 8, by have : (y 1).val < 512 := (y 1).isLt; omega⟩ (y 2))

theorem rowPieces_G : ∀ n, ∀ p ∈ rowPieces E n, ∀ x : p.1.shape.Idx, p.2 x = rowsG E (p.1.emb x)
  | 0 => fun _ h => absurd h List.not_mem_nil
  | n + 1 => by
    intro p hp
    rcases List.mem_cons.mp hp with rfl | hp
    · intro x
      obtain ⟨h0, h1, h2⟩ := rowRect_emb_val (C := 16) (N := 64) (DP := 8) (D := 8) (L := 128) (Nat.le_refl 8) ⟨n / 8 % 16, Nat.mod_lt _ (by decide)⟩ ⟨n % 8, Nat.mod_lt _ (by decide)⟩ x
      have hx0 : (x 0).val < 1 := (x 0).isLt
      have hx1 : (x 1).val < 64 := (x 1).isLt
      have hn : n % 8 < 8 := Nat.mod_lt _ (by decide)
      unfold rowsG
      refine congr (congr (congrArg (slabRow E) (Fin.ext h0.symm)) (Fin.ext ?_)) ?_
      · refine Eq.trans ?_ (congrArg (· % 8) h1.symm)
        show n % 8 = (n % 8 + 8 * (x 1).val) % 8
        omega
      · funext k
        match k with
        | ⟨0, _⟩ => exact Fin.ext (by show (x 0).val = 0; omega)
        | ⟨1, _⟩ =>
          refine Fin.ext ?_
          refine Eq.trans ?_ (congrArg (· / 8) h1.symm)
          show (x 1).val = (n % 8 + 8 * (x 1).val) / 8
          omega
        | ⟨2, _⟩ => exact Fin.ext h2.symm
    · exact rowPieces_G n p hp

theorem mem_rowPieces (m : ℕ) : ∀ n, m < n →
    (⟨rowRect (C := 16) (N := 64) (DP := 8) (D := 8) (L := 128) (Nat.le_refl 8) ⟨m / 8 % 16, Nat.mod_lt _ (by decide)⟩ ⟨m % 8, Nat.mod_lt _ (by decide)⟩,
      slabRow E ⟨m / 8 % 16, Nat.mod_lt _ (by decide)⟩ ⟨m % 8, Nat.mod_lt _ (by decide)⟩⟩ : View.Piece (Elt Ideal) S16x512x128 .f32) ∈ rowPieces E n
  | 0, h => absurd h (Nat.not_lt_zero _)
  | n + 1, h => by
    rcases Nat.lt_succ_iff_lt_or_eq.mp h with h | rfl
    · exact List.mem_cons_of_mem _ (mem_rowPieces m n h)
    · exact List.mem_cons_self

theorem truncf_at {s : Shape} {φ ψ : FTy} (x : FVec Ideal s φ) (h : ψ.bits < φ.bits) (j : s.Idx) : truncf ψ x h j = x j := rfl

theorem slab_at (c : Fin 16) (t : Fin 64) (s : Fin 8) (l : Fin 128) : slab E c (ix2 (brow t s) l) = HL E s t (lane c l) := by
  have hs := s.isLt; have hc := c.isLt; have ht := t.isLt
  unfold slab
  rw [truncf_at, cast32 _ _ (brow t s) l, View.readCov_eq_canon']
  have hidx : (slabBox c).toLoadRect.idx (ix3 0 (brow t s) l) = ix3 c (brow t s) l := by
    funext k
    match k with
    | ⟨0, _⟩ => exact Fin.ext (by show c.val + 1 * 0 = c.val; omega)
    | ⟨1, _⟩ => exact Fin.ext (by show 0 + 1 * (8 * t.val + s.val) = 8 * t.val + s.val; omega)
    | ⟨2, _⟩ => exact Fin.ext (by show 0 + 1 * l.val = l.val; omega)
  show View.canon _ ((slabBox c).toLoadRect.idx (ix3 0 (brow t s) l)) = _
  rw [hidx, View.canon_apply_of_pieces (rowsG E) _ (rowPieces_G E _)]
  · unfold rowsG
    rw [← slabRow_at]
    refine congr (congr (congrArg (slabRow E) (Fin.ext rfl)) (Fin.ext ?_)) ?_
    · show (8 * t.val + s.val) % 8 = s.val
      omega
    · refine congrArg₂ (ix3 0) (Fin.ext ?_) rfl
      show (8 * t.val + s.val) / 8 = t.val
      omega
  · refine ⟨_, mem_rowPieces E (8 * c.val + s.val) _ (by omega), ?_⟩
    rw [LoadRect.mem_set]
    intro a
    match a with
    | ⟨0, _⟩ => exact ⟨0, Nat.one_pos, show c.val = (8 * c.val + s.val) / 8 % 16 + 1 * 0 by omega⟩
    | ⟨1, _⟩ => exact ⟨t.val, t.isLt, show 8 * t.val + s.val = (8 * c.val + s.val) % 8 + 8 * t.val by omega⟩
    | ⟨2, _⟩ => exact ⟨l.val, l.isLt, show l.val = 0 + 1 * l.val by omega⟩

theorem hl_at (t : Fin 64) (s : Fin 8) (m : Fin 2048) : hlM E (ix2 (brow t s) m) = HL E s t m := by
  have hm := m.isLt
  unfold hlM
  refine (cat1 (slab E) cat16 ⟨m.val / 128, by omega⟩ ⟨m.val % 128, Nat.mod_lt _ (by decide)⟩ (brow t s) m (by show m.val = 128 * (m.val / 128) + m.val % 128; omega)).trans ?_
  rw [slab_at]
  refine congrArg (HL E s t) (Fin.ext ?_)
  show 128 * (m.val / 128) + m.val % 128 = m.val
  omega

end Cert.KernelIdeal.Model

end
-- ==== Proof.Reads2.lean ====
/- The projected parts, the convolutions and the gate products at an index. -/
module

public import proofs.«01_k».proof.Proof.Reads

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (E : In Ideal)

theorem mm256 (x : FVec Ideal S512x2048 .bf16) (y : FVec Ideal S2048x256 .bf16) (i : Fin 512) (j : Fin 256) :
    matmul dot_S512x2048_S2048x256_S512x256_1_0_0_1_n_n none x y (constant S512x256 .f32 0x00000000#32) (ix2 i j)
      = ∑ m : Fin 2048, x (ix2 i m) * y (ix2 m j) := by
  pointwise!

theorem mm1536 (x : FVec Ideal S512x2048 .bf16) (y : FVec Ideal S2048x1536 .bf16) (i : Fin 512) (j : Fin 1536) :
    matmul dot_S512x2048_S2048x1536_S512x1536_1_0_0_1_n_n none x y (constant S512x1536 .f32 0x00000000#32) (ix2 i j)
      = ∑ m : Fin 2048, x (ix2 i m) * y (ix2 m j) := by
  pointwise!

theorem mm1280 (x : FVec Ideal S512x2048 .bf16) (y : FVec Ideal S2048x1280 .bf16) (i : Fin 512) (j : Fin 1280) :
    matmul dot_S512x2048_S2048x1280_S512x1280_1_0_0_1_n_n none x y (constant S512x1280 .f32 0x00000000#32) (ix2 i j)
      = ∑ m : Fin 2048, x (ix2 i m) * y (ix2 m j) := by
  pointwise!

theorem mm1 (x : FVec Ideal S512x256 .bf16) (y : FVec Ideal S256x256 .bf16) (i : Fin 512) (j : Fin 256) :
    matmul dot_S512x256_S256x256_S512x256_1_0_0_1_n_n none x y (constant S512x256 .f32 0x00000000#32) (ix2 i j)
      = ∑ m : Fin 256, x (ix2 i m) * y (ix2 m j) := by
  pointwise!

/-- Column `q` of the packed projection at a token. -/
def PX (s : Fin 8) (t : Fin 64) (q : Fin 6144) : EReal := ∑ m : Fin 2048, HL E s t m * E.X3 (ix2 m q)

theorem v0_at (t : Fin 64) (s : Fin 8) (l : Fin 256) : v0M E (hlM E) (ix2 (brow t s) l) = PX E s t ⟨4608 + l, by omega⟩ := by
  unfold v0M PX
  rw [mm256]
  refine Finset.sum_congr rfl fun m _ => ?_
  rw [hl_at]
  refine congrArg (_ * ·) ((congrFun (shapeCast_id _ _) _).trans <| (ld2 (Val := Elt Ideal) (e := .bf16) E.X3 0 4608 _ m l (by omega) (by omega)).trans ?_)
  exact congrArg E.X3 (congrArg₂ ix2 (Fin.ext (Nat.zero_add _)) rfl)

theorem part_at (g : Fin 3) (j : Fin 6) (t : Fin 64) (s : Fin 8) (l : Fin 256) :
    partM E (hlM E) g j (ix2 (brow t s) l) = PX E s t ⟨1536 * g + (256 * j + l), by omega⟩ := by
  have hj := j.isLt; have hl := l.isLt; have hg := g.isLt
  unfold partM
  rw [slice2 _ _ _ _ _ _ (by omega) (by omega)]
  unfold wideM PX
  rw [mm1536]
  refine Finset.sum_congr rfl fun m _ => ?_
  refine congrArg₂ (· * ·) ?_ ((congrFun (shapeCast_id _ _) _).trans <| (ld2 (Val := Elt Ideal) (e := .bf16) E.X3 0 (1536 * g.val) _ m ⟨256 * j + l, by omega⟩ (by omega) (by simp; omega)).trans ?_)
  · rw [← hl_at]
    exact congrArg (hlM E) (congrArg₂ ix2 (Fin.ext (Nat.zero_add _)) rfl)
  · exact congrArg E.X3 (congrArg₂ ix2 (Fin.ext (Nat.zero_add _)) rfl)

theorem part3_at (j : Fin 5) (t : Fin 64) (s : Fin 8) (l : Fin 256) :
    part3M E (hlM E) j (ix2 (brow t s) l) = PX E s t ⟨4864 + (256 * j + l), by omega⟩ := by
  have hj := j.isLt; have hl := l.isLt
  unfold part3M
  rw [slice2 _ _ _ _ _ _ (by omega) (by omega)]
  unfold wide3M PX
  rw [mm1280]
  refine Finset.sum_congr rfl fun m _ => ?_
  refine congrArg₂ (· * ·) ?_ ((congrFun (shapeCast_id _ _) _).trans <| (ld2 (Val := Elt Ideal) (e := .bf16) E.X3 0 4864 _ m ⟨256 * j + l, by omega⟩ (by omega) (by simp; omega)).trans ?_)
  · rw [← hl_at]
    exact congrArg (hlM E) (congrArg₂ ix2 (Fin.ext (Nat.zero_add _)) rfl)
  · exact congrArg E.X3 (congrArg₂ ix2 (Fin.ext (Nat.zero_add _)) rfl)

/-- The packed column of a group's scan input; -/
def vcol (g : Fin 4) (l : Fin 256) : Fin 6144 := ⟨1536 * ((g + 3) % 4) + l, by omega⟩
/-- and of its other five parts. -/
def pcol (g : Fin 4) (j : Fin 5) (l : Fin 256) : Fin 6144 := ⟨1536 * g + 256 * (j + 1) + l, by omega⟩

theorem v_at (g : Fin 4) (t : Fin 64) (s : Fin 8) (l : Fin 256) : vM E (hlM E) g (ix2 (brow t s) l) = PX E s t (vcol g l) := by
  match g with
  | ⟨0, _⟩ => exact v0_at E t s l
  | ⟨1, _⟩ => exact (part_at E _ _ t s l).trans (congrArg (PX E s t) (Fin.ext (by simp [vcol])))
  | ⟨2, _⟩ => exact (part_at E _ _ t s l).trans (congrArg (PX E s t) (Fin.ext (by simp [vcol])))
  | ⟨3, _⟩ => exact (part_at E _ _ t s l).trans (congrArg (PX E s t) (Fin.ext (by simp [vcol])))

theorem p_at (j : Fin 5) (g : Fin 4) (t : Fin 64) (s : Fin 8) (l : Fin 256) : pM E (hlM E) j g (ix2 (brow t s) l) = PX E s t (pcol g j l) := by
  match g with
  | ⟨0, _⟩ => exact (part_at E _ _ t s l).trans (congrArg (PX E s t) (Fin.ext (by simp [pcol])))
  | ⟨1, _⟩ => exact (part_at E _ _ t s l).trans (congrArg (PX E s t) (Fin.ext (by simp [pcol]; omega)))
  | ⟨2, _⟩ => exact (part_at E _ _ t s l).trans (congrArg (PX E s t) (Fin.ext (by simp [pcol]; omega)))
  | ⟨3, _⟩ => exact (part3_at E _ t s l).trans (congrArg (PX E s t) (Fin.ext (by simp [pcol]; omega)))

/-! ## The convolutions -/

/-- A sequence of 64 read `d` places back, zero outside. -/
def back (f : Fin 64 → EReal) (d : ℕ) (t : Fin 64) : EReal := if h : d ≤ t.val then f ⟨t - d, by omega⟩ else 0
/-- A sequence of 64 read one place on, zero outside. -/
def fore (f : Fin 64 → EReal) (t : Fin 64) : EReal := if h : t.val + 1 < 64 then f ⟨t + 1, h⟩ else 0

theorem down16_at (x : FVec Ideal S512x256 .f32) (t : Fin 64) (s : Fin 8) (l : Fin 256) :
    down16 x (ix2 (brow t s) l) = back (fun t => x (ix2 (brow t s) l)) 2 t := by
  have ht := t.isLt; have hs := s.isLt
  unfold down16 back
  rw [concatenate_pair_apply]
  by_cases h : 2 ≤ t.val
  · rw [dif_neg (by show ¬ (8 * t.val + s.val < 16); omega), dif_pos h]
    refine congrArg x (funext fun k => ?_)
    match k with
    | ⟨0, _⟩ => exact Fin.ext (by show 0 + (8 * t.val + s.val - 16) = 8 * (t.val - 2) + s.val; omega)
    | ⟨1, _⟩ => exact Fin.ext (by show 0 + l.val = l.val; omega)
  · rw [dif_pos (by show 8 * t.val + s.val < 16; omega), dif_neg h]
    exact Ideal.ofBits_zero_f32

theorem down8_at (x : FVec Ideal S512x256 .f32) (t : Fin 64) (s : Fin 8) (l : Fin 256) :
    down8 x (ix2 (brow t s) l) = back (fun t => x (ix2 (brow t s) l)) 1 t := by
  have ht := t.isLt; have hs := s.isLt
  unfold down8 back
  rw [concatenate_pair_apply]
  by_cases h : 1 ≤ t.val
  · rw [dif_neg (by show ¬ (8 * t.val + s.val < 8); omega), dif_pos h]
    refine congrArg x (funext fun k => ?_)
    match k with
    | ⟨0, _⟩ => exact Fin.ext (by show 0 + (8 * t.val + s.val - 8) = 8 * (t.val - 1) + s.val; omega)
    | ⟨1, _⟩ => exact Fin.ext (by show 0 + l.val = l.val; omega)
  · rw [dif_pos (by show 8 * t.val + s.val < 8; omega), dif_neg h]
    exact Ideal.ofBits_zero_f32

theorem up8_at (x : FVec Ideal S512x256 .f32) (t : Fin 64) (s : Fin 8) (l : Fin 256) :
    up8 x (ix2 (brow t s) l) = fore (fun t => x (ix2 (brow t s) l)) t := by
  have ht := t.isLt; have hs := s.isLt
  unfold up8 fore
  rw [concatenate_pair_apply]
  by_cases h : t.val + 1 < 64
  · rw [dif_pos (by show 8 * t.val + s.val < 504; omega), dif_pos h]
    refine congrArg x (funext fun k => ?_)
    match k with
    | ⟨0, _⟩ => exact Fin.ext (by show 8 + (8 * t.val + s.val) = 8 * (t.val + 1) + s.val; omega)
    | ⟨1, _⟩ => exact Fin.ext (by show 0 + l.val = l.val; omega)
  · rw [dif_neg (by show ¬ (8 * t.val + s.val < 504); omega), dif_neg h]
    exact Ideal.ofBits_zero_f32

/-- A group's channel. -/
abbrev chan (g : Fin 4) (l : Fin 256) : Fin 1024 := ⟨256 * g + l, by omega⟩

/-- A row of a table of channels, cut to a group and copied down the block. -/
theorem row_at {n : ℕ} (X : (⟨2, ![n, 1024]⟩ : Shape).Idx → Elt Ideal .f32) (g : Fin 4) (d : Fin n) (i : Fin 512) (l : Fin 256)
    (h1 : ∀ i : Fin 2, (![0, 256 * g.val] : Fin 2 → ℕ) i + (![n, 256] : Fin 2 → ℕ) i ≤ (![n, 1024] : Fin 2 → ℕ) i)
    (h2 : Shape.Slices ⟨2, ![n, 256]⟩ ![d.val, 0] ⟨2, ![1, 256]⟩) (h3 : (⟨2, ![1, 256]⟩ : Shape).Broadcasts ⟨2, ![512, 256]⟩)
    (h4 : (⟨2, ![n, 256]⟩ : Shape).ShapeCasts ⟨2, ![n, 256]⟩) :
    broadcastTo ⟨2, ![512, 256]⟩ (extractStridedSlice ⟨2, ![1, 256]⟩ ![d.val, 0] (shapeCast ⟨2, ![n, 256]⟩
      (View.ld (Val := Elt Ideal) (e' := .f32) (S := ⟨2, ![n, 1024]⟩) X (Rect.unit (s := ⟨2, ![n, 1024]⟩) ![0, 256 * g.val] ![n, 256] h1)) h4) h2) h3 (ix2 i l)
      = X (ix2 d (chan g l)) := by
  rw [bcastRow _ _ (by decide) i l, slice2 _ d.val 0 h2 0 l (by show d.val + 0 < n; exact d.isLt) (by have := l.isLt; omega)]
  refine (congrFun (shapeCast_id _ _) _).trans <| (ld2 (Val := Elt Ideal) (e := .f32) X 0 (256 * g.val) h1 _ _ (by show 0 + (d.val + 0) < n; have := d.isLt; omega) (by show 256 * g.val + (0 + l.val) < 1024; have := g.isLt; omega)).trans ?_
  exact congrArg X (congrArg₂ ix2 (Fin.ext (by show 0 + (d.val + 0) = d.val; omega)) (Fin.ext (by show 256 * g.val + (0 + l.val) = 256 * g.val + l.val; omega)))

theorem convB_at (g : Fin 4) (x : FVec Ideal S512x256 .f32) (t : Fin 64) (s : Fin 8) (l : Fin 256) :
    convB E g x (ix2 (brow t s) l) = back (fun t => x (ix2 (brow t s) l)) 2 t * E.X5 (ix2 0 (chan g l))
      + back (fun t => x (ix2 (brow t s) l)) 1 t * E.X5 (ix2 1 (chan g l))
      + x (ix2 (brow t s) l) * E.X5 (ix2 2 (chan g l)) + fore (fun t => x (ix2 (brow t s) l)) t * E.X5 (ix2 3 (chan g l)) := by
  rw [← down16_at, ← down8_at, ← up8_at]
  unfold convB
  exact congrArg₂ (· + ·) (congrArg₂ (· + ·) (congrArg₂ (· + ·)
    (congrArg₂ (· * ·) rfl (row_at (n := 4) E.X5 g 0 (brow t s) l _ _ _ _)) (congrArg₂ (· * ·) rfl (row_at (n := 4) E.X5 g 1 (brow t s) l _ _ _ _)))
    (congrArg₂ (· * ·) rfl (row_at (n := 4) E.X5 g 2 (brow t s) l _ _ _ _))) (congrArg₂ (· * ·) rfl (row_at (n := 4) E.X5 g 3 (brow t s) l _ _ _ _))

theorem convA_at (g : Fin 4) (x : FVec Ideal S512x256 .f32) (t : Fin 64) (s : Fin 8) (l : Fin 256) :
    convA E g x (ix2 (brow t s) l) = back (fun t => x (ix2 (brow t s) l)) 1 t * E.X4 (ix2 0 (chan g l))
      + x (ix2 (brow t s) l) * E.X4 (ix2 1 (chan g l)) + fore (fun t => x (ix2 (brow t s) l)) t * E.X4 (ix2 2 (chan g l)) := by
  rw [← down8_at, ← up8_at]
  unfold convA
  exact congrArg₂ (· + ·) (congrArg₂ (· + ·)
    (congrArg₂ (· * ·) rfl (row_at (n := 3) E.X4 g 0 (brow t s) l _ _ _ _)) (congrArg₂ (· * ·) rfl (row_at (n := 3) E.X4 g 1 (brow t s) l _ _ _ _)))
    (congrArg₂ (· * ·) rfl (row_at (n := 3) E.X4 g 2 (brow t s) l _ _ _ _))

/-- The convolved scan input at a token and channel. -/
def XBX (s : Fin 8) (t : Fin 64) (g : Fin 4) (l : Fin 256) : EReal :=
  back (fun t => PX E s t (vcol g l)) 2 t * E.X5 (ix2 0 (chan g l)) + back (fun t => PX E s t (vcol g l)) 1 t * E.X5 (ix2 1 (chan g l))
    + PX E s t (vcol g l) * E.X5 (ix2 2 (chan g l)) + fore (fun t => PX E s t (vcol g l)) t * E.X5 (ix2 3 (chan g l)) + E.X6 (ix2 0 (chan g l))

theorem XB_at (g : Fin 4) (t : Fin 64) (s : Fin 8) (l : Fin 256) : XB E g (ix2 (brow t s) l) = XBX E s t g l := by
  unfold XB xbM XBX
  refine congrArg₂ (· + ·) ?_ ?_
  · rw [convB_at]
    simp only [v_at]
  · rw [bcastRow _ _ (by decide)]
    refine (ld2 (Val := Elt Ideal) (e := .f32) E.X6 0 (256 * g.val) _ 0 l (by decide) (by have := g.isLt; omega)).trans ?_
    exact congrArg E.X6 (congrArg₂ ix2 rfl rfl)

end Cert.KernelIdeal.Model

end
-- ==== Proof.Reads3.lean ====
/- The gates, the recurrence coefficients, the scans and the five outputs of a block at an index. -/
module

public import proofs.«01_k».proof.Proof.Reads2
public import Idealize.ShloMosaic.Lib.Pipeline.CanonAppend

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (E : In Ideal)

theorem wb_at (d : Fin 2) (g : Fin 4) (p : Fin 2) (i j : Fin 256) : wbM E d g p (ix2 i j) = E.X7 (ix4 d g i ⟨256 * p + j, by omega⟩) := by
  have hj := j.isLt; have hp := p.isLt; have hd := d.isLt; have hg := g.isLt
  unfold wbM
  refine (ld2 (Val := Elt Ideal) (e := .bf16) _ 0 (256 * p.val) _ i j (by omega) (by omega)).trans ?_
  refine (cast42 _ _ _ _).trans ?_
  refine (ld4 (Val := Elt Ideal) (e := .bf16) E.X7 d.val g.val 0 0 _ 0 0 _ _ (by show d.val + 0 < 2; omega) (by show g.val + 0 < 4; omega) (by show 0 + (0 + i.val) < 256; have := i.isLt; omega) (by show 0 + (256 * p.val + j.val) < 512; omega)).trans ?_
  refine congrArg E.X7 (funext fun k => ?_)
  match k with
  | ⟨0, _⟩ => exact Fin.ext (by show d.val + 0 = d.val; omega)
  | ⟨1, _⟩ => exact Fin.ext (by show g.val + 0 = g.val; omega)
  | ⟨2, _⟩ => exact Fin.ext (by show 0 + (0 + i.val) = i.val; omega)
  | ⟨3, _⟩ => exact Fin.ext (by show 0 + (256 * p.val + j.val) = 256 * p.val + j.val; omega)

/-- A gate's product at a token and channel. -/
def PREX (d : Fin 2) (p : Fin 2) (s : Fin 8) (t : Fin 64) (g : Fin 4) (l : Fin 256) : EReal :=
  ∑ i : Fin 256, XBX E s t g i * E.X7 (ix4 d g i ⟨256 * p + l, by omega⟩)

theorem pre_at (d : Fin 2) (g : Fin 4) (p : Fin 2) (t : Fin 64) (s : Fin 8) (l : Fin 256) :
    preM E d g p (XB E g) (ix2 (brow t s) l) = PREX E d p s t g l := by
  unfold preM PREX
  rw [mm1]
  refine Finset.sum_congr rfl fun i _ => ?_
  rw [truncf_at, XB_at]
  exact congrArg (_ * ·) ((congrFun (shapeCast_id _ _) _).trans (wb_at E d g p i l))

/-! ## The parked halves -/

section park
variable (xb : Fin 4 → FVec Ideal S512x256 .f32)

theorem park_at (d : Fin 2) (g : Fin 4) (p j : Fin 2) (u : Fin 1) (i : Fin 512) (l : Fin 128) :
    parkM E d g p j (xb g) (ix3 u i l) = preM E d g p (xb g) (ix2 i ⟨128 * j + l, by omega⟩) := by
  have hj := j.isLt; have hl := l.isLt
  unfold parkM
  refine (cast23 _ _ u i l).trans ((slice2 _ _ _ _ _ _ (by omega) (by omega)).trans ?_)
  exact congrArg (preM E d g p (xb g)) (congrArg₂ ix2 (Fin.ext (Nat.zero_add _)) rfl)

/-- What group `g`'s eight parks leave of a slab. -/
def parkG (g : Fin 4) (y : S16x512x128.Idx) : EReal :=
  have : (y 0).val < 16 := (y 0).isLt
  preM E ⟨(y 0).val % 8 / 4, by omega⟩ g ⟨(y 0).val % 4 / 2, by omega⟩ (xb g)
    (ix2 (y 1) ⟨128 * ((y 0).val % 2) + (y 2).val, by have : (y 2).val < 128 := (y 2).isLt; omega⟩)

/-- The park numbered `n`. -/
def parkPc (n : ℕ) : View.Piece (Elt Ideal) S16x512x128 .f32 :=
  ⟨slabBox ⟨n % 16, Nat.mod_lt _ (by decide)⟩,
      parkM E ⟨n / 4 % 2, Nat.mod_lt _ (by decide)⟩ ⟨n / 8 % 4, Nat.mod_lt _ (by decide)⟩ ⟨n / 2 % 2, Nat.mod_lt _ (by decide)⟩ ⟨n % 2, Nat.mod_lt _ (by decide)⟩
        (xb ⟨n / 8 % 4, Nat.mod_lt _ (by decide)⟩)⟩

theorem parkPc_G (g : Fin 4) (k : ℕ) (hk : k < 8) : ∀ x, (parkPc E xb (8 * g.val + k)).2 x = parkG E xb g ((parkPc E xb (8 * g.val + k)).1.emb x) := by
  have hg := g.isLt
  intro x
  have hx0 : (x 0).val < 1 := (x 0).isLt
  have hx1 : (x 1).val < 512 := (x 1).isLt
  have hx2 : (x 2).val < 128 := (x 2).isLt
  have e0 : ((parkPc E xb (8 * g.val + k)).1.emb x 0).val = (8 * g.val + k) % 16 := by
    show (8 * g.val + k) % 16 + 1 * (x 0).val = _; omega
  have e1 : ((parkPc E xb (8 * g.val + k)).1.emb x 1).val = (x 1).val := by
    show 0 + 1 * (x 1).val = _; omega
  have e2 : ((parkPc E xb (8 * g.val + k)).1.emb x 2).val = (x 2).val := by
    show 0 + 1 * (x 2).val = _; omega
  have hgg : (⟨(8 * g.val + k) / 8 % 4, Nat.mod_lt _ (by decide)⟩ : Fin 4) = g := Fin.ext (by show (8 * g.val + k) / 8 % 4 = g.val; omega)
  refine Eq.trans (b := parkM E ⟨(8 * g.val + k) / 4 % 2, Nat.mod_lt _ (by decide)⟩ ⟨(8 * g.val + k) / 8 % 4, Nat.mod_lt _ (by decide)⟩
    ⟨(8 * g.val + k) / 2 % 2, Nat.mod_lt _ (by decide)⟩ ⟨(8 * g.val + k) % 2, Nat.mod_lt _ (by decide)⟩
    (xb ⟨(8 * g.val + k) / 8 % 4, Nat.mod_lt _ (by decide)⟩) (ix3 ⟨(x 0).val, hx0⟩ ⟨(x 1).val, hx1⟩ ⟨(x 2).val, hx2⟩)) ?_ ?_
  · refine congrArg (parkPc E xb (8 * g.val + k)).2 (funext fun a => ?_)
    match a with
    | ⟨0, _⟩ => rfl
    | ⟨1, _⟩ => rfl
    | ⟨2, _⟩ => rfl
  rw [hgg, park_at]
  unfold parkG
  have hd : (⟨(8 * g.val + k) / 4 % 2, Nat.mod_lt _ (by decide)⟩ : Fin 2)
      = ⟨((parkPc E xb (8 * g.val + k)).1.emb x 0).val % 8 / 4, by omega⟩ := Fin.ext (by show (8 * g.val + k) / 4 % 2 = _ % 8 / 4; rw [e0]; omega)
  have hp : (⟨(8 * g.val + k) / 2 % 2, Nat.mod_lt _ (by decide)⟩ : Fin 2)
      = ⟨((parkPc E xb (8 * g.val + k)).1.emb x 0).val % 4 / 2, by omega⟩ := Fin.ext (by show (8 * g.val + k) / 2 % 2 = _ % 4 / 2; rw [e0]; omega)
  rw [hd, hp]
  refine congrArg _ (congrArg₂ ix2 (Fin.ext e1.symm) (Fin.ext ?_))
  show 128 * ((8 * g.val + k) % 2) + (x 2).val = 128 * (((parkPc E xb (8 * g.val + k)).1.emb x 0).val % 2) + ((parkPc E xb (8 * g.val + k)).1.emb x 2).val
  rw [e0, e2]
  omega

/-- The last eight parks. -/
def parkTop (g : Fin 4) : List (View.Piece (Elt Ideal) S16x512x128 .f32) :=
  [parkPc E xb (8 * g.val + 7), parkPc E xb (8 * g.val + 6), parkPc E xb (8 * g.val + 5), parkPc E xb (8 * g.val + 4),
    parkPc E xb (8 * g.val + 3), parkPc E xb (8 * g.val + 2), parkPc E xb (8 * g.val + 1), parkPc E xb (8 * g.val + 0)]

theorem parkPieces_top (g : Fin 4) : parkPieces E xb (8 * g.val + 8) = parkTop E xb g ++ parkPieces E xb (8 * g.val) := rfl

theorem mem_parkTop (g : Fin 4) (k : ℕ) (hk : k < 8) : parkPc E xb (8 * g.val + k) ∈ parkTop E xb g := by
  unfold parkTop
  interval_cases k <;> simp

theorem parkRead (g : Fin 4) (k : ℕ) (hk : k < 8) (i : Fin 512) (l : Fin 128) (c : Fin 16) (hc : c.val = (8 * g.val + k) % 16) :
    shapeCast S512x128 (E.v.readCov (parkPieces E xb (8 * g.val + 8)) (slabBox c).toLoadRect) shapeCasts_S1x512x128_S512x128 (ix2 i l)
      = preM E ⟨k / 4, by omega⟩ g ⟨k % 4 / 2, by omega⟩ (xb g) (ix2 i ⟨128 * (k % 2) + l, by omega⟩) := by
  have hg := g.isLt
  obtain rfl : c = ⟨(8 * g.val + k) % 16, Nat.mod_lt _ (by decide)⟩ := Fin.ext hc
  rw [cast32 _ _ i l, View.readCov_eq_canon']
  have hidx : (slabBox ⟨(8 * g.val + k) % 16, Nat.mod_lt _ (by decide)⟩).toLoadRect.idx (ix3 0 i l) = ix3 ⟨(8 * g.val + k) % 16, Nat.mod_lt _ (by decide)⟩ i l := by
    funext a
    match a with
    | ⟨0, _⟩ => exact Fin.ext (by show (8 * g.val + k) % 16 + 1 * 0 = (8 * g.val + k) % 16; omega)
    | ⟨1, _⟩ => exact Fin.ext (by show 0 + 1 * i.val = i.val; omega)
    | ⟨2, _⟩ => exact Fin.ext (by show 0 + 1 * l.val = l.val; omega)
  show View.canon _ ((slabBox ⟨(8 * g.val + k) % 16, Nat.mod_lt _ (by decide)⟩).toLoadRect.idx (ix3 0 i l)) = _
  rw [hidx, parkPieces_top, View.canon_append_of_pieces (parkG E xb g)]
  · unfold parkG
    have hd : (⟨(8 * g.val + k) % 16 % 8 / 4, by omega⟩ : Fin 2) = ⟨k / 4, by omega⟩ := Fin.ext (by show (8 * g.val + k) % 16 % 8 / 4 = k / 4; omega)
    have hp : (⟨(8 * g.val + k) % 16 % 4 / 2, by omega⟩ : Fin 2) = ⟨k % 4 / 2, by omega⟩ := Fin.ext (by show (8 * g.val + k) % 16 % 4 / 2 = k % 4 / 2; omega)
    refine congr (congr (congr (congr (congrArg (preM E) hd) rfl) hp) rfl) (congrArg₂ ix2 rfl (Fin.ext ?_))
    show 128 * ((8 * g.val + k) % 16 % 2) + l.val = 128 * (k % 2) + l.val
    omega
  · intro p hp
    simp only [parkTop, List.mem_cons, List.not_mem_nil, or_false] at hp
    rcases hp with rfl | rfl | rfl | rfl | rfl | rfl | rfl | rfl <;> exact parkPc_G E xb g _ (by decide)
  · refine ⟨_, mem_parkTop E xb g k hk, ?_⟩
    rw [LoadRect.mem_set]
    intro a
    match a with
    | ⟨0, _⟩ => exact ⟨0, Nat.one_pos, show (8 * g.val + k) % 16 = (8 * g.val + k) % 16 + 1 * 0 by omega⟩
    | ⟨1, _⟩ => exact ⟨i.val, i.isLt, show i.val = 0 + 1 * i.val by omega⟩
    | ⟨2, _⟩ => exact ⟨l.val, l.isLt, show l.val = 0 + 1 * l.val by omega⟩

theorem unpark_at (d : Fin 2) (g : Fin 4) (p : Fin 2) (i : Fin 512) (l : Fin 256) :
    unparkM E xb d g p (ix2 i l) = preM E d g p (xb g) (ix2 i l) := by
  have hd := d.isLt; have hp := p.isLt; have hl := l.isLt
  unfold unparkM
  have d0 : (⟨(4 * d.val + 2 * p.val) / 4, by omega⟩ : Fin 2) = d := Fin.ext (by show (4 * d.val + 2 * p.val) / 4 = d.val; omega)
  have p0 : (⟨(4 * d.val + 2 * p.val) % 4 / 2, by omega⟩ : Fin 2) = p := Fin.ext (by show (4 * d.val + 2 * p.val) % 4 / 2 = p.val; omega)
  have d1 : (⟨(4 * d.val + 2 * p.val + 1) / 4, by omega⟩ : Fin 2) = d := Fin.ext (by show (4 * d.val + 2 * p.val + 1) / 4 = d.val; omega)
  have p1 : (⟨(4 * d.val + 2 * p.val + 1) % 4 / 2, by omega⟩ : Fin 2) = p := Fin.ext (by show (4 * d.val + 2 * p.val + 1) % 4 / 2 = p.val; omega)
  by_cases h : l.val < 128
  · refine (concatenate_pair_apply_left (t := S512x256) (s₁ := S512x128) (s₂ := S512x128) 1 _ _ _ (ix2 i l) rfl (ix2 i ⟨l.val, h⟩) (fun b => ?_)).trans ?_
    · match b with
      | ⟨0, _⟩ => rfl
      | ⟨1, _⟩ => rfl
    · refine (parkRead E xb g (4 * d.val + 2 * p.val) (by omega) i ⟨l.val, h⟩ _ (by show (8 * g.val + 4 * d.val + 2 * p.val) % 16 = _; omega)).trans ?_
      rw [d0, p0]
      refine congrArg _ (congrArg₂ ix2 rfl (Fin.ext ?_))
      show 128 * ((4 * d.val + 2 * p.val) % 2) + l.val = l.val
      omega
  · refine (concatenate_pair_apply_right (t := S512x256) (s₁ := S512x128) (s₂ := S512x128) 1 _ _ _ (ix2 i l) rfl rfl (ix2 i ⟨l.val - 128, by omega⟩) ?_ ?_).trans ?_
    · intro b hb
      match b with
      | ⟨0, _⟩ => rfl
      | ⟨1, _⟩ => exact absurd rfl hb
    · show l.val - 128 + 128 = l.val
      omega
    · refine (parkRead E xb g (4 * d.val + 2 * p.val + 1) (by omega) i ⟨l.val - 128, by omega⟩ _ (by show (8 * g.val + 4 * d.val + 2 * p.val + 1) % 16 = _; omega)).trans ?_
      rw [d1, p1]
      refine congrArg _ (congrArg₂ ix2 rfl (Fin.ext ?_))
      show 128 * ((4 * d.val + 2 * p.val + 1) % 2) + (l.val - 128) = l.val
      omega

end park

theorem PRE_at (d : Fin 2) (g : Fin 4) (p : Fin 2) (t : Fin 64) (s : Fin 8) (l : Fin 256) :
    PRE E g d p (ix2 (brow t s) l) = PREX E d p s t g l := by
  unfold PRE
  rw [unpark_at, pre_at]

end Cert.KernelIdeal.Model

end
-- ==== Proof.Spec.lean ====
module

public import proofs.«01_k».proof.Proof.Reads3

@[expose] public section

noncomputable section

/-! The layer's first stage, entry by entry, as the reference writes it: the norm, the projection, the two
convolutions, the gates and the coefficients of the recurrence. -/
namespace Cert.Spec

open Idealize.ShloMosaic Cert.KernelIdeal.Model

/-- The arguments, as arrays of extended reals. -/
structure Arg where
  /-- tokens -/
  x : (⟨3, ![1, 8192, 2048]⟩ : Shape).Idx → EReal
  /-- shift, scale and gate of the modulation -/
  md : (⟨2, ![8, 6144]⟩ : Shape).Idx → EReal
  /-- gain of the norm -/
  ng : (⟨2, ![1, 2048]⟩ : Shape).Idx → EReal
  /-- input projection -/
  wi : (⟨3, ![1, 2048, 6144]⟩ : Shape).Idx → EReal
  /-- taps of the first convolution -/
  ca : (⟨3, ![1, 3, 1024]⟩ : Shape).Idx → EReal
  /-- taps of the second convolution -/
  cb : (⟨3, ![1, 4, 1024]⟩ : Shape).Idx → EReal
  /-- bias of the second convolution -/
  bb : (⟨2, ![1, 1024]⟩ : Shape).Idx → EReal
  /-- recurrence gate, weights -/
  wa : (⟨5, ![1, 2, 16, 64, 64]⟩ : Shape).Idx → EReal
  /-- recurrence gate, bias -/
  ba : (⟨3, ![1, 2, 1024]⟩ : Shape).Idx → EReal
  /-- input gate, weights -/
  wx : (⟨5, ![1, 2, 16, 64, 64]⟩ : Shape).Idx → EReal
  /-- input gate, bias -/
  bx : (⟨3, ![1, 2, 1024]⟩ : Shape).Idx → EReal
  /-- decay -/
  la : (⟨3, ![1, 2, 1024]⟩ : Shape).Idx → EReal

variable (A : Arg)

/-- The regularised mean square of a token. -/
def MS (r : Fin 8192) : EReal :=
  Ideal.div (∑ m : Fin 2048, A.x (ix3 0 r m) * A.x (ix3 0 r m)) (Ideal.ofBits .f32 0x45000000#32) + Ideal.ofBits .f32 0x358637BD#32
/-- The normalised and modulated token. -/
def HR (r : Fin 8192) (m : Fin 2048) : EReal :=
  A.x (ix3 0 r m) * Ideal.rsqrt (MS A r) * A.ng (ix2 0 m) * (1 + A.md (ix2 0 ⟨2048 + m, by omega⟩)) + A.md (ix2 0 ⟨m, by omega⟩)
/-- The projected token. -/
def PR (r : Fin 8192) (j : Fin 6144) : EReal := ∑ m : Fin 2048, HR A r m * A.wi (ix3 0 m j)
/-- Token `t` of line `n`. -/
def tok (n : Fin 128) (t : Fin 64) : Fin 8192 := ⟨n.val * 64 + t.val, by omega⟩
/-- Channel `q` of projection block `o`. -/
def col (o : ℕ) (ho : o ≤ 5120) (q : Fin 1024) : Fin 6144 := ⟨o + q.val, by omega⟩
/-- The first convolution's input. -/
def UR (n : Fin 128) (q : Fin 1024) (t : Fin 64) : EReal :=
  PR A (tok n t) (col 1024 (by omega) q) * PR A (tok n t) (col 2048 (by omega) q)
/-- The first convolution. -/
def CR (n : Fin 128) (t : Fin 64) (q : Fin 1024) : EReal :=
  back (UR A n q) 1 t * A.ca (ix3 0 0 q) + UR A n q t * A.ca (ix3 0 1 q) + fore (UR A n q) t * A.ca (ix3 0 2 q)
/-- The second convolution's input. -/
def VR (n : Fin 128) (q : Fin 1024) (t : Fin 64) : EReal := PR A (tok n t) (col 4096 (by omega) q)
/-- The second convolution. -/
def XR (n : Fin 128) (t : Fin 64) (q : Fin 1024) : EReal :=
  back (VR A n q) 2 t * A.cb (ix3 0 0 q) + back (VR A n q) 1 t * A.cb (ix3 0 1 q) + VR A n q t * A.cb (ix3 0 2 q)
    + fore (VR A n q) t * A.cb (ix3 0 3 q) + A.bb (ix2 0 q)
/-- Logistic function, as a quotient. -/
def sg (z : EReal) : EReal := Ideal.div 1 (1 + Ideal.exp (-z))
/-- A gate. -/
def GR (w : (⟨5, ![1, 2, 16, 64, 64]⟩ : Shape).Idx → EReal) (b : (⟨3, ![1, 2, 1024]⟩ : Shape).Idx → EReal)
    (d : Fin 2) (n : Fin 128) (t : Fin 64) (q : Fin 1024) : EReal :=
  sg (∑ i : Fin 64, w (ix5 0 d ⟨q.val / 64, by omega⟩ i ⟨q.val % 64, by omega⟩) * XR A n t ⟨q.val / 64 * 64 + i.val, by omega⟩ + b (ix3 0 d q))
/-- Softplus. -/
def SP (x : EReal) : EReal := max x 0 + Ideal.log1p (Ideal.exp (-(FloatOps.absf (F := Ideal) (φ := .f32) x : EReal)))
/-- The recurrence's logarithmic coefficient. -/
def LA (d : Fin 2) (n : Fin 128) (t : Fin 64) (q : Fin 1024) : EReal :=
  Ideal.ofBits .f32 0xC1000000#32 * GR A A.wa A.ba d n t q * SP (-(A.la (ix3 0 d q)))
/-- The recurrence's coefficient. -/
def AR (d : Fin 2) (n : Fin 128) (q : Fin 1024) (t : Fin 64) : EReal := Ideal.exp (LA A d n t q)
/-- The recurrence's input. -/
def BR (d : Fin 2) (n : Fin 128) (q : Fin 1024) (t : Fin 64) : EReal :=
  Ideal.sqrt (-(Ideal.exp (Ideal.ofBits .f32 0x40000000#32 * LA A d n t q) - 1)) * (GR A A.wx A.bx d n t q * XR A n t q)
/-- The output gate. -/
def SQ (n : Fin 128) (q : Fin 1024) (t : Fin 64) : EReal := PR A (tok n t) (col 5120 (by omega) q) * sg (PR A (tok n t) (col 5120 (by omega) q))
/-- The first head group's output. -/
def YA (n : Fin 128) (q : Fin 1024) (t : Fin 64) : EReal :=
  PR A (tok n t) (col 0 (by omega) q) * CR A n t q * (PR A (tok n t) (col 3072 (by omega) q) * sg (PR A (tok n t) (col 3072 (by omega) q)))

end Cert.Spec

end
-- ==== Proof.Reads4.lean ====
/- The recurrence coefficients, the scans and the five outputs of a block at an index. -/
module

public import proofs.«01_k».proof.Proof.Reads3

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (E : In Ideal)

/-- The literals of the program. -/
abbrev c0 : EReal := Ideal.ofBits .f32 0x00000000#32
abbrev c1 : EReal := Ideal.ofBits .f32 0x3F800000#32
abbrev ch : EReal := Ideal.ofBits .f32 0x3F000000#32
abbrev c4 : EReal := Ideal.ofBits .f32 0x40800000#32
abbrev cL : EReal := (Named.named κ "nlog2e" 0xBFB8AA3B#32 : Ideal .f32)

/-- The kernel's scalar formulas: the decay's rate from λ, -/
def kC (x : EReal) : EReal := c4 * (max (c0 - x) c0 + Ideal.log1p (Ideal.exp (c0 - max (c0 - x) (-(c0 - x)))))
/-- the exponent from the gate's product, its bias and the rate, -/
def kU (z h c : EReal) : EReal := Ideal.tanh (z + h) * c + c
/-- the decay, -/
def kA (u : EReal) : EReal := Ideal.exp2 (u * cL)
/-- the input's weight, -/
def kR (u a : EReal) : EReal :=
  if Ideal.cmp .ogt (Ideal.tanh u * (c1 + a * a)) c0 = 1#1 then Ideal.tanh u * (c1 + a * a) * Ideal.rsqrt (Ideal.tanh u * (c1 + a * a)) else c0
/-- the weighted input, -/
def kB (u a z h x : EReal) : EReal := kR u a * ((Ideal.tanh (z + h) + c1) * (ch * x))
/-- and the gate. -/
def kS (x : EReal) : EReal := ch * x * Ideal.tanh (ch * x) + ch * x

theorem tab_at (x : FVec Ideal S2x1024 .f32) (d : Fin 2) (g : Fin 4) (i : Fin 512) (l : Fin 256) :
    rowM d g x (ix2 i l) = x (ix2 d (chan g l)) := by
  have hd := d.isLt
  unfold rowM
  refine (bcastRow _ _ (by decide) i l).trans ((slice2 _ _ _ _ _ _ (by show d.val + 0 < 2; omega) (by have := g.isLt; have := l.isLt; omega)).trans ?_)
  exact congrArg x (congrArg₂ ix2 rfl rfl)

theorem whole_at (X : Vec Ideal S2x1024 .f32) (d : Fin 2) (q : Fin 1024) (h) (h') :
    shapeCast S2x1024 (View.ld (Val := Elt Ideal) X (Rect.unit (s := S2x1024) ![0, 0] S2x1024.size h)) h' (ix2 d q) = X (ix2 d q) := by
  have hd := d.isLt; have hq := q.isLt
  refine (congrFun (shapeCast_id _ _) _).trans ((ld2 (Val := Elt Ideal) (e := .f32) X 0 0 _ d q (by omega) (by omega)).trans ?_)
  exact congrArg X (congrArg₂ ix2 (Fin.ext (Nat.zero_add _)) (Fin.ext (Nat.zero_add _)))

theorem half_at (X : Vec Ideal S2x1024 .f32) (d : Fin 2) (q : Fin 1024) : halfM X (ix2 d q) = ch * X (ix2 d q) := by
  unfold halfM
  exact congrArg (ch * ·) (whole_at X d q _ _)

theorem hc8_at (d : Fin 2) (q : Fin 1024) : hc8M E (ix2 d q) = kC (E.X10 (ix2 d q)) := by
  rw [← whole_at E.X10 d q (box2 0 0 (by decide) (by decide)) shapeCasts_S2x1024_S2x1024]
  rfl

theorem silu_at (x : FVec Ideal S512x256 .f32) (i : Fin 512) (l : Fin 256) : siluM x (ix2 i l) = kS (x (ix2 i l)) := rfl

/-- A group's exponent, decay and weighted input at a token. -/
def UX (d : Fin 2) (s : Fin 8) (t : Fin 64) (g : Fin 4) (l : Fin 256) : EReal :=
  kU (PREX E d 0 s t g l) (ch * E.X8 (ix2 d (chan g l))) (kC (E.X10 (ix2 d (chan g l))))
def AX (d : Fin 2) (s : Fin 8) (t : Fin 64) (g : Fin 4) (l : Fin 256) : EReal := kA (UX E d s t g l)
def BX (d : Fin 2) (s : Fin 8) (t : Fin 64) (g : Fin 4) (l : Fin 256) : EReal :=
  kB (UX E d s t g l) (AX E d s t g l) (PREX E d 1 s t g l) (ch * E.X9 (ix2 d (chan g l))) (XBX E s t g l)

theorem UU_at (g : Fin 4) (d : Fin 2) (t : Fin 64) (s : Fin 8) (l : Fin 256) : UU E g d (ix2 (brow t s) l) = UX E d s t g l := by
  have e : UU E g d (ix2 (brow t s) l) = kU (PRE E g d 0 (ix2 (brow t s) l)) (rowM d g (halfM E.X8) (ix2 (brow t s) l)) (rowM d g (hc8M E) (ix2 (brow t s) l)) := rfl
  rw [e, PRE_at, tab_at, tab_at, half_at, hc8_at, UX]

theorem AA_at (g : Fin 4) (d : Fin 2) (t : Fin 64) (s : Fin 8) (l : Fin 256) : AA E g d (ix2 (brow t s) l) = AX E d s t g l := by
  have e : AA E g d (ix2 (brow t s) l) = kA (UU E g d (ix2 (brow t s) l)) := rfl
  rw [e, UU_at, AX]

theorem BB_at (g : Fin 4) (d : Fin 2) (t : Fin 64) (s : Fin 8) (l : Fin 256) : BB E g d (ix2 (brow t s) l) = BX E d s t g l := by
  have e : BB E g d (ix2 (brow t s) l) = kB (UU E g d (ix2 (brow t s) l)) (AA E g d (ix2 (brow t s) l)) (PRE E g d 1 (ix2 (brow t s) l))
      (rowM d g (halfM E.X9) (ix2 (brow t s) l)) (XB E g (ix2 (brow t s) l)) := rfl
  rw [e, UU_at, AA_at, PRE_at, tab_at, half_at, XB_at, BX]

/-! ## Scans of sequences -/

/-- The linear recurrence from zero, -/
def sH (a b : Fin 64 → EReal) : (t : ℕ) → t < 64 → EReal
  | 0, h => b ⟨0, h⟩
  | t + 1, h => a ⟨t + 1, h⟩ * sH a b t (Nat.lt_of_succ_lt h) + b ⟨t + 1, h⟩
/-- and the products of the decays. -/
def sP (a : Fin 64 → EReal) : (t : ℕ) → t < 64 → EReal
  | 0, h => a ⟨0, h⟩
  | t + 1, h => a ⟨t + 1, h⟩ * sP a t (Nat.lt_of_succ_lt h)

/-- A sequence from its end. -/
def flip (f : Fin 64 → EReal) (t : Fin 64) : EReal := f ⟨63 - t, by omega⟩

theorem step_at (x : FVec Ideal S512x256 .f32) (t : ℕ) (h : t < 64) (s : Fin 8) (l : Fin 256) :
    stepM x t h (ix2 s l) = x (ix2 (brow ⟨t, h⟩ s) l) := by
  have hs := s.isLt
  unfold stepM
  refine (slice2 _ _ _ _ _ _ (by omega) (by omega)).trans ?_
  exact congrArg x (congrArg₂ ix2 rfl (Fin.ext (Nat.zero_add _)))

theorem fwdH_at (a b : FVec Ideal S512x256 .f32) (s : Fin 8) (l : Fin 256) : ∀ (t : ℕ) (h : t < 64),
    fwdH a b t h (ix2 s l) = sH (fun t => a (ix2 (brow t s) l)) (fun t => b (ix2 (brow t s) l)) t h
  | 0, h => step_at b 0 h s l
  | t + 1, h => congrArg₂ (· + ·) (congrArg₂ (· * ·) (step_at a (t + 1) h s l) (fwdH_at a b s l t _)) (step_at b (t + 1) h s l)

theorem fwdP_at (a : FVec Ideal S512x256 .f32) (s : Fin 8) (l : Fin 256) : ∀ (t : ℕ) (h : t < 64),
    fwdP a t h (ix2 s l) = sP (fun t => a (ix2 (brow t s) l)) t h
  | 0, h => step_at a 0 h s l
  | t + 1, h => congrArg₂ (· * ·) (step_at a (t + 1) h s l) (fwdP_at a s l t _)

theorem revH_at (a b : FVec Ideal S512x256 .f32) (s : Fin 8) (l : Fin 256) : ∀ (t : ℕ) (h : t < 64),
    revH a b t h (ix2 s l) = sH (flip fun t => a (ix2 (brow t s) l)) (flip fun t => b (ix2 (brow t s) l)) t h
  | 0, _ => step_at b 63 (by decide) s l
  | t + 1, h => congrArg₂ (· + ·) (congrArg₂ (· * ·) (step_at a (63 - (t + 1)) (by omega) s l) (revH_at a b s l t _)) (step_at b (63 - (t + 1)) (by omega) s l)

theorem revP_at (a : FVec Ideal S512x256 .f32) (s : Fin 8) (l : Fin 256) : ∀ (t : ℕ) (h : t < 64),
    revP a t h (ix2 s l) = sP (flip fun t => a (ix2 (brow t s) l)) t h
  | 0, _ => step_at a 63 (by decide) s l
  | t + 1, h => congrArg₂ (· * ·) (step_at a (63 - (t + 1)) (by omega) s l) (revP_at a s l t _)

theorem all_at (f : (t : ℕ) → t < 64 → FVec Ideal S8x256 .f32) (t : Fin 64) (s : Fin 8) (l : Fin 256) :
    allM f (ix2 (brow t s) l) = f t t.isLt (ix2 s l) := by
  unfold allM
  exact cat0 (fun t : Fin 64 => f t.val t.isLt) cat64 t s l (brow t s) rfl

theorem allR_at (f : (t : ℕ) → t < 64 → FVec Ideal S8x256 .f32) (t : Fin 64) (s : Fin 8) (l : Fin 256) :
    allR f (ix2 (brow t s) l) = f (63 - t) (by omega) (ix2 s l) := by
  unfold allR
  exact cat0 (fun t : Fin 64 => f (63 - t.val) (by omega)) cat64 t s l (brow t s) rfl

/-! ## The outputs -/

def yaX (s : Fin 8) (t : Fin 64) (g : Fin 4) (l : Fin 256) : EReal :=
  PX E s t (pcol g 3 l) * (back (fun t => PX E s t (pcol g 1 l) * PX E s t (pcol g 2 l)) 1 t * E.X4 (ix2 0 (chan g l))
    + PX E s t (pcol g 1 l) * PX E s t (pcol g 2 l) * E.X4 (ix2 1 (chan g l))
    + fore (fun t => PX E s t (pcol g 1 l) * PX E s t (pcol g 2 l)) t * E.X4 (ix2 2 (chan g l))) * kS (PX E s t (pcol g 4 l))

theorem YA_at (g : Fin 4) (t : Fin 64) (s : Fin 8) (l : Fin 256) : YA E g (ix2 (brow t s) l) = yaX E s t g l := by
  have e : YA E g (ix2 (brow t s) l) = pM E (hlM E) 3 g (ix2 (brow t s) l) * convA E g (mulf (pM E (hlM E) 1 g) (pM E (hlM E) 2 g)) (ix2 (brow t s) l)
      * kS (pM E (hlM E) 4 g (ix2 (brow t s) l)) := rfl
  have m : ∀ t, mulf (pM E (hlM E) 1 g) (pM E (hlM E) 2 g) (ix2 (brow t s) l) = PX E s t (pcol g 1 l) * PX E s t (pcol g 2 l) := fun t =>
    congrArg₂ (· * ·) (p_at E 1 g t s l) (p_at E 2 g t s l)
  rw [e, convA_at, p_at, p_at]
  simp only [m]
  rfl

def sqX (s : Fin 8) (t : Fin 64) (g : Fin 4) (l : Fin 256) : EReal := kS (PX E s t (pcol g 0 l))

theorem SQ_at (g : Fin 4) (t : Fin 64) (s : Fin 8) (l : Fin 256) : SQ E g (ix2 (brow t s) l) = sqX E s t g l := by
  unfold SQ sqX
  rw [silu_at, p_at]

abbrev hfX (s : Fin 8) (g : Fin 4) (l : Fin 256) := sH (fun t => AX E 0 s t g l) (fun t => BX E 0 s t g l)
abbrev pfX (s : Fin 8) (g : Fin 4) (l : Fin 256) := sP (fun t => AX E 0 s t g l)
abbrev hrX (s : Fin 8) (g : Fin 4) (l : Fin 256) := sH (flip fun t => AX E 1 s t g l) (flip fun t => BX E 1 s t g l)
abbrev prX (s : Fin 8) (g : Fin 4) (l : Fin 256) := sP (flip fun t => AX E 1 s t g l)

theorem SS_at (g : Fin 4) (t : Fin 64) (s : Fin 8) (l : Fin 256) :
    SS E g (ix2 (brow t s) l) = (hfX E s g l t t.isLt + hrX E s g l (63 - t) (by omega)) * sqX E s t g l := by
  have e : SS E g (ix2 (brow t s) l) = (HF E g (ix2 (brow t s) l) + HR E g (ix2 (brow t s) l)) * SQ E g (ix2 (brow t s) l) := rfl
  rw [e, SQ_at, HF, HR, all_at, allR_at, fwdH_at, revH_at]
  simp only [AA_at, BB_at]

theorem PFS_at (g : Fin 4) (t : Fin 64) (s : Fin 8) (l : Fin 256) :
    PFS E g (ix2 (brow t s) l) = pfX E s g l t t.isLt * sqX E s t g l := by
  have e : PFS E g (ix2 (brow t s) l) = PF E g (ix2 (brow t s) l) * SQ E g (ix2 (brow t s) l) := rfl
  rw [e, SQ_at, PF, all_at, fwdP_at]
  simp only [AA_at]

theorem PRS_at (g : Fin 4) (t : Fin 64) (s : Fin 8) (l : Fin 256) :
    PRS E g (ix2 (brow t s) l) = prX E s g l (63 - t) (by omega) * sqX E s t g l := by
  have e : PRS E g (ix2 (brow t s) l) = PR E g (ix2 (brow t s) l) * SQ E g (ix2 (brow t s) l) := rfl
  rw [e, SQ_at, PR, allR_at, revP_at]
  simp only [AA_at]

def endX (k : Fin 4) (s : Fin 8) (g : Fin 4) (l : Fin 256) : EReal :=
  match k with
  | ⟨0, _⟩ => hfX E s g l 63 (by decide)
  | ⟨1, _⟩ => pfX E s g l 63 (by decide)
  | ⟨2, _⟩ => hrX E s g l 63 (by decide)
  | ⟨3, _⟩ => prX E s g l 63 (by decide)

theorem END_at (g : Fin 4) (k : Fin 4) (s : Fin 8) (l : Fin 256) : END E g k (ix2 s l) = endX E k s g l := by
  match k with
  | ⟨0, _⟩ => exact (fwdH_at _ _ s l 63 _).trans (by simp only [AA_at, BB_at]; rfl)
  | ⟨1, _⟩ => exact (fwdP_at _ s l 63 _).trans (by simp only [AA_at]; rfl)
  | ⟨2, _⟩ => exact (revH_at _ _ s l 63 _).trans (by simp only [AA_at, BB_at]; rfl)
  | ⟨3, _⟩ => exact (revP_at _ s l 63 _).trans (by simp only [AA_at]; rfl)

/-! ## The stored pieces -/

theorem cols_at (f : Fin 4 → FVec Ideal S512x256 .bf16) (i : Fin 512) (g : Fin 4) (l : Fin 256) :
    View.canon (colPieces f) (ix2 i (chan g l)) = f g (ix2 i l) := by
  let G : S512x1024.Idx → EReal := fun y =>
    f ⟨(y 1).val / 256, by have : (y 1).val < 1024 := (y 1).isLt; omega⟩ (ix2 (y 0) ⟨(y 1).val % 256, Nat.mod_lt _ (by decide)⟩)
  have hp : ∀ (q : Fin 4) (x : (colBox q).shape.Idx), f q x = G ((colBox q).emb x) := by
    intro q x
    have hx0 : (x 0).val < 512 := (x 0).isLt
    have hx1 : (x 1).val < 256 := (x 1).isLt
    have e1 : ((colBox q).emb x 1).val = 256 * q.val + (x 1).val := by show 256 * q.val + 1 * (x 1).val = _; omega
    have e0 : ((colBox q).emb x 0).val = (x 0).val := by show 0 + 1 * (x 0).val = _; omega
    have hq : (⟨((colBox q).emb x 1).val / 256, by rw [e1]; omega⟩ : Fin 4) = q := Fin.ext (by show _ / 256 = q.val; rw [e1]; omega)
    show f q x = f ⟨((colBox q).emb x 1).val / 256, _⟩ (ix2 ((colBox q).emb x 0) ⟨((colBox q).emb x 1).val % 256, _⟩)
    rw [hq]
    refine congrArg (f q) (funext fun a => ?_)
    match a with
    | ⟨0, _⟩ => exact Fin.ext e0.symm
    | ⟨1, _⟩ => exact Fin.ext (by show (x 1).val = _ % 256; rw [e1]; omega)
  refine (View.canon_apply_of_pieces (Val := Elt Ideal) (e := .bf16) G (colPieces f) ?_ (ix2 i (chan g l)) ?_).trans ?_
  · intro p hmem
    simp only [colPieces, List.mem_cons, List.not_mem_nil, or_false] at hmem
    rcases hmem with rfl | rfl | rfl | rfl <;> exact hp _
  · refine ⟨⟨colBox g, f g⟩, ?_, ?_⟩
    · match g with
      | ⟨0, _⟩ => simp [colPieces]
      | ⟨1, _⟩ => simp [colPieces]
      | ⟨2, _⟩ => simp [colPieces]
      | ⟨3, _⟩ => simp [colPieces]
    · rw [LoadRect.mem_set]
      intro a
      match a with
      | ⟨0, _⟩ => exact ⟨i.val, i.isLt, show i.val = 0 + 1 * i.val by omega⟩
      | ⟨1, _⟩ => exact ⟨l.val, l.isLt, show 256 * g.val + l.val = 256 * g.val + 1 * l.val by omega⟩
  · have hg : (⟨(256 * g.val + l.val) / 256, by omega⟩ : Fin 4) = g := Fin.ext (by show (256 * g.val + l.val) / 256 = g.val; omega)
    show f ⟨(256 * g.val + l.val) / 256, _⟩ (ix2 i ⟨(256 * g.val + l.val) % 256, _⟩) = _
    rw [hg]
    exact congrArg (f g) (congrArg₂ ix2 rfl (Fin.ext (by show (256 * g.val + l.val) % 256 = l.val; omega)))

theorem sums_at (k : Fin 4) (s : Fin 8) (g : Fin 4) (l : Fin 256) :
    View.canon (sumPieces E) (ix4 0 k s (chan g l)) = endX E k s g l := by
  let G : S1x4x8x1024.Idx → EReal := fun y =>
    endX E (y 1) (y 2) ⟨(y 3).val / 256, by have : (y 3).val < 1024 := (y 3).isLt; omega⟩ ⟨(y 3).val % 256, Nat.mod_lt _ (by decide)⟩
  have hp : ∀ (q k : Fin 4) (x : (sumBox q k).shape.Idx), shapeCast S1x1x8x256 (END E q k) shapeCasts_S8x256_S1x1x8x256 x = G ((sumBox q k).emb x) := by
    intro q k x
    have hx0 : (x 0).val < 1 := (x 0).isLt
    have hx1 : (x 1).val < 1 := (x 1).isLt
    have hx2 : (x 2).val < 8 := (x 2).isLt
    have hx3 : (x 3).val < 256 := (x 3).isLt
    have e3 : ((sumBox q k).emb x 3).val = 256 * q.val + (x 3).val := by show 256 * q.val + 1 * (x 3).val = _; omega
    have e2 : ((sumBox q k).emb x 2) = (⟨(x 2).val, hx2⟩ : Fin 8) := Fin.ext (by show 0 + 1 * (x 2).val = (x 2).val; omega)
    have e1 : ((sumBox q k).emb x 1) = k := Fin.ext (by show k.val + 1 * (x 1).val = _; omega)
    have hq : (⟨((sumBox q k).emb x 3).val / 256, by rw [e3]; omega⟩ : Fin 4) = q := Fin.ext (by show _ / 256 = q.val; rw [e3]; omega)
    show _ = endX E ((sumBox q k).emb x 1) ((sumBox q k).emb x 2) ⟨((sumBox q k).emb x 3).val / 256, _⟩ ⟨((sumBox q k).emb x 3).val % 256, _⟩
    rw [hq, e1, e2]
    have hx : x = ix4 ⟨(x 0).val, hx0⟩ ⟨(x 1).val, hx1⟩ ⟨(x 2).val, hx2⟩ ⟨(x 3).val, hx3⟩ := by
      funext a
      match a with
      | ⟨0, _⟩ => rfl
      | ⟨1, _⟩ => rfl
      | ⟨2, _⟩ => rfl
      | ⟨3, _⟩ => rfl
    refine (congrArg (shapeCast S1x1x8x256 (END E q k) shapeCasts_S8x256_S1x1x8x256) hx).trans ((cast24 (END E q k) _ _ _ _ _).trans ((END_at E q k _ _).trans ?_))
    exact congrArg (endX E k _ q) (Fin.ext (by show (x 3).val = ((sumBox q k).emb x 3).val % 256; rw [e3]; omega))
  refine (View.canon_apply_of_pieces (Val := Elt Ideal) (e := .f32) G (sumPieces E) ?_ (ix4 0 k s (chan g l)) ?_).trans ?_
  · intro p hmem
    obtain ⟨n, -, rfl⟩ := List.mem_map.mp hmem
    exact hp _ _
  · have hg := g.isLt; have hk := k.isLt
    refine ⟨_, List.mem_map.mpr ⟨4 * g.val + k.val, List.mem_reverse.mpr (List.mem_range.mpr (by omega)), rfl⟩, ?_⟩
    rw [LoadRect.mem_set]
    intro a
    match a with
    | ⟨0, _⟩ => exact ⟨0, Nat.one_pos, show 0 = 0 + 1 * 0 by omega⟩
    | ⟨1, _⟩ => exact ⟨0, Nat.one_pos, show k.val = (4 * g.val + k.val) % 4 + 1 * 0 by omega⟩
    | ⟨2, _⟩ => exact ⟨s.val, s.isLt, show s.val = 0 + 1 * s.val by omega⟩
    | ⟨3, _⟩ => exact ⟨l.val, l.isLt, show 256 * g.val + l.val = 256 * ((4 * g.val + k.val) / 4 % 4) + 1 * l.val by omega⟩
  · have hg : (⟨(256 * g.val + l.val) / 256, by omega⟩ : Fin 4) = g := Fin.ext (by show (256 * g.val + l.val) / 256 = g.val; omega)
    show endX E k s ⟨(256 * g.val + l.val) / 256, _⟩ ⟨(256 * g.val + l.val) % 256, _⟩ = _
    rw [hg]
    exact congrArg (endX E k s g) (Fin.ext (by show (256 * g.val + l.val) % 256 = l.val; omega))

end Cert.KernelIdeal.Model

end
-- ==== Proof.Scal.lean ====
module

public import proofs.«01_k».proof.Proof.Spec
public import proofs.«01_k».proof.Proof.Reads4

@[expose] public section

noncomputable section

/-! Scalar identities: the kernel's hyperbolic form of the gates and coefficients equals the logistic form, on reals. -/
namespace Cert.Spec

open Idealize.ShloMosaic Cert.KernelIdeal.Model

/-- A real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y)
  | ⟨a, ha⟩, ⟨b, hb⟩ => ⟨a + b, by rw [ha, hb, EReal.coe_add]⟩
theorem IsR.mul {x y : EReal} : IsR x → IsR y → IsR (x * y)
  | ⟨a, ha⟩, ⟨b, hb⟩ => ⟨a * b, by rw [ha, hb, EReal.coe_mul]⟩
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem IsR.sum {ι : Type} [Fintype ι] {f : ι → EReal} (h : ∀ i, IsR (f i)) : IsR (∑ i, f i) := by
  choose g hg using h
  exact ⟨∑ i, g i, by rw [← coe_sum]; exact Finset.sum_congr rfl fun i _ => hg i⟩

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem four_eq : Ideal.ofBits .f32 0x40800000#32 = ((4 : ℝ) : EReal) := by
  simp [Ideal.ofBits, Ideal.ieee, -EReal.coe_mul]; norm_num
theorem neg8_eq : Ideal.ofBits .f32 0xC1000000#32 = ((-8 : ℝ) : EReal) := by
  simp [Ideal.ofBits, Ideal.ieee, -EReal.coe_mul]; norm_num
theorem width_eq : Ideal.ofBits .f32 0x45000000#32 = ((2048 : ℝ) : EReal) := by
  simp [Ideal.ofBits, Ideal.ieee, -EReal.coe_mul]; norm_num
theorem eps_eq : ∃ r : ℝ, 0 < r ∧ Ideal.ofBits .f32 0x358637BD#32 = (r : EReal) := by
  refine ⟨_, ?_, by simp [Ideal.ofBits, Ideal.ieee, -EReal.coe_mul]; rfl⟩
  norm_num
theorem one_eq : (1 : EReal) = ((1 : ℝ) : EReal) := rfl
theorem zero_eq : (0 : EReal) = ((0 : ℝ) : EReal) := rfl
theorem h_ch : ch = ((1 / 2 : ℝ) : EReal) := half_eq
theorem h_c4 : c4 = ((4 : ℝ) : EReal) := four_eq
theorem h_c1 : c1 = ((1 : ℝ) : EReal) := Ideal.ofBits_one_f32
theorem h_c0 : c0 = 0 := Ideal.ofBits_zero_f32
theorem coe_max (x y : ℝ) : max (x : EReal) (y : EReal) = ((max x y : ℝ) : EReal) := (EReal.coe_strictMono.monotone.map_max).symm
theorem log_eq : cL = ((-((Real.log 2)⁻¹) : ℝ) : EReal) := rfl

theorem sig_real (x : ℝ) : 1 / (1 + Real.exp (-x)) = (Real.tanh (x / 2) + 1) / 2 := by
  have e : Real.exp (-x) = Real.exp (-(x / 2)) * Real.exp (-(x / 2)) := by rw [← Real.exp_add]; congr 1; ring
  have i : Real.exp (x / 2) * Real.exp (-(x / 2)) = 1 := by rw [← Real.exp_add]; simp
  rw [Real.tanh_eq_sinh_div_cosh, Real.sinh_eq, Real.cosh_eq, e]
  have p := Real.exp_pos (x / 2); have n := Real.exp_pos (-(x / 2))
  set p' := Real.exp (x / 2)
  set n' := Real.exp (-(x / 2))
  have h1 : (1 + n' * n') ≠ 0 := by positivity
  have h2 : (p' + n') ≠ 0 := by positivity
  field_simp
  nlinarith [i]

theorem sg_coe (x : ℝ) : sg (x : EReal) = ((1 / (1 + Real.exp (-x)) : ℝ) : EReal) := by
  unfold sg
  rw [← EReal.coe_neg, Ideal.exp_coe, one_eq, ← EReal.coe_add, Ideal.div_coe (by positivity), ← EReal.coe_mul, one_mul]
theorem sg_half (x : ℝ) : sg (x : EReal) = (((Real.tanh (x / 2) + 1) / 2 : ℝ) : EReal) := by rw [sg_coe, sig_real]

theorem silu_eq {x : EReal} (h : IsR x) : kS x = x * sg x := by
  obtain ⟨r, rfl⟩ := h
  unfold kS
  rw [h_ch, sg_half, ← EReal.coe_mul, Ideal.tanh_coe, ← EReal.coe_mul, ← EReal.coe_add, ← EReal.coe_mul]
  refine congrArg _ ?_
  rw [show 1 / 2 * r = r / 2 by ring]
  ring

theorem kC_eq (x : EReal) : kC x = c4 * SP (-x) := by
  unfold kC SP
  rw [Ideal.absf_def, h_c0, zero_sub, zero_sub]

theorem SP_coe (x : ℝ) : ∃ s : ℝ, 0 ≤ s ∧ SP (x : EReal) = (s : EReal) := by
  refine ⟨max x 0 + Real.log (1 + Real.exp (-(max x (-x)))), ?_, ?_⟩
  · have := Real.exp_pos (-(max x (-x)))
    exact add_nonneg (le_max_right _ _) (Real.log_nonneg (by linarith))
  · unfold SP
    have e := Real.exp_pos (-(max x (-x)))
    rw [Ideal.absf_def, ← EReal.coe_neg, coe_max, ← EReal.coe_neg, Ideal.exp_coe]
    show max (x : EReal) ((0 : ℝ) : EReal) + Ideal.log (((1 : ℝ) : EReal) + _) = _
    rw [coe_max, ← EReal.coe_add, Ideal.log_coe, if_neg (by linarith), ← EReal.coe_add]

/-- The exponent is twice the gate times the rate. -/
theorem kU_eq (y l : ℝ) (z h : EReal) (hz : z + h = ((y / 2 : ℝ) : EReal)) :
    ∃ u : ℝ, 0 ≤ u ∧ kU z h (kC l) = (u : EReal) ∧ Ideal.ofBits .f32 0xC1000000#32 * sg y * SP (-(l : EReal)) = ((-u : ℝ) : EReal) := by
  obtain ⟨s, hs, es⟩ := SP_coe (-l)
  rw [EReal.coe_neg] at es
  have ht : -1 < Real.tanh (y / 2) := Real.neg_one_lt_tanh _
  refine ⟨Real.tanh (y / 2) * (4 * s) + 4 * s, by nlinarith, ?_, ?_⟩
  · unfold kU
    rw [hz, kC_eq, es, h_c4, Ideal.tanh_coe]
    rw [← EReal.coe_mul, ← EReal.coe_mul, ← EReal.coe_add]
  · rw [neg8_eq, sg_half, es, ← EReal.coe_mul, ← EReal.coe_mul]
    refine congrArg _ ?_
    ring

theorem kA_coe (u : ℝ) : kA (u : EReal) = ((Real.exp (-u) : ℝ) : EReal) := by
  unfold kA
  rw [log_eq, ← EReal.coe_mul, Ideal.exp2_coe]
  refine congrArg _ ?_
  show (2 : ℝ) ^ (u * -(Real.log 2)⁻¹) = _
  rw [Real.rpow_def_of_pos (by norm_num)]
  have h2 : Real.log 2 ≠ 0 := (Real.log_pos (by norm_num)).ne'
  congr 1
  field_simp

theorem coefA (y l : ℝ) (z h : EReal) (hz : z + h = ((y / 2 : ℝ) : EReal)) :
    kA (kU z h (kC l)) = Ideal.exp (Ideal.ofBits .f32 0xC1000000#32 * sg y * SP (-(l : EReal))) := by
  obtain ⟨u, _, h1, h2⟩ := kU_eq y l z h hz
  rw [h1, h2, kA_coe, Ideal.exp_coe]

theorem om_real (u : ℝ) : Real.tanh u * (1 + Real.exp (-u) * Real.exp (-u)) = 1 - Real.exp (2 * -u) := by
  have e : Real.exp (2 * -u) = Real.exp (-u) * Real.exp (-u) := by rw [← Real.exp_add]; congr 1; ring
  have i : Real.exp u * Real.exp (-u) = 1 := by rw [← Real.exp_add]; simp
  rw [Real.tanh_eq_sinh_div_cosh, Real.sinh_eq, Real.cosh_eq, e]
  have p := Real.exp_pos u; have n := Real.exp_pos (-u)
  set p' := Real.exp u
  set n' := Real.exp (-u)
  have h2 : (p' + n') ≠ 0 := by positivity
  field_simp
  nlinarith [i]

theorem kR_coe (u : ℝ) (hu : 0 ≤ u) : kR (u : EReal) ((Real.exp (-u) : ℝ) : EReal) = ((Real.sqrt (1 - Real.exp (2 * -u)) : ℝ) : EReal) := by
  unfold kR
  rw [h_c1, h_c0, Ideal.tanh_coe, ← EReal.coe_mul, ← EReal.coe_add, ← EReal.coe_mul, om_real]
  have h0 : 0 ≤ 1 - Real.exp (2 * -u) := by
    have : Real.exp (2 * -u) ≤ 1 := Real.exp_le_one_iff.mpr (by linarith)
    linarith
  set o := 1 - Real.exp (2 * -u)
  have hc : (Ideal.cmp .ogt (o : EReal) 0 = 1#1) ↔ 0 < o := by
    show BitVec.ofBool (decide ((0 : EReal) < (o : EReal))) = 1#1 ↔ _
    rw [zero_eq]
    by_cases h : 0 < o
    · rw [decide_eq_true (EReal.coe_lt_coe_iff.mpr h)]; exact ⟨fun _ => h, fun _ => rfl⟩
    · rw [decide_eq_false (fun h' => h (EReal.coe_lt_coe_iff.mp h'))]
      exact ⟨fun h' => absurd h' (by decide), fun h' => absurd h' h⟩
  by_cases h : 0 < o
  · rw [if_pos (hc.mpr h), Ideal.rsqrt_coe, if_neg (by linarith), if_neg (by linarith), ← EReal.coe_mul]
    refine congrArg _ ?_
    have := Real.sqrt_pos.mpr h
    rw [← div_eq_mul_inv, Real.div_sqrt]
  · rw [if_neg (fun h' => h (hc.mp h')), show o = 0 by linarith, Real.sqrt_zero]; rfl

theorem coefB (y l v x : ℝ) (z h z' h' : EReal) (hz : z + h = ((y / 2 : ℝ) : EReal)) (hz' : z' + h' = ((v / 2 : ℝ) : EReal)) :
    kB (kU z h (kC l)) (kA (kU z h (kC l))) z' h' (x : EReal)
      = Ideal.sqrt (-(Ideal.exp (Ideal.ofBits .f32 0x40000000#32 * (Ideal.ofBits .f32 0xC1000000#32 * sg y * SP (-(l : EReal)))) - 1)) * (sg v * (x : EReal)) := by
  obtain ⟨u, hu, h1, h2⟩ := kU_eq y l z h hz
  unfold kB
  rw [h1, h2, kA_coe, kR_coe u hu, hz', two_eq, ← EReal.coe_mul, Ideal.exp_coe, one_eq, ← EReal.coe_sub, ← EReal.coe_neg, Ideal.sqrt_coe, if_neg, neg_sub,
    sg_half, Ideal.tanh_coe, h_c1, h_ch, ← EReal.coe_mul, ← EReal.coe_add, ← EReal.coe_mul, ← EReal.coe_mul]
  · rw [← EReal.coe_mul, ← EReal.coe_mul]
    refine congrArg _ ?_
    ring
  · have : Real.exp (2 * -u) ≤ 1 := Real.exp_le_one_iff.mpr (by linarith)
    linarith

end Cert.Spec

end
-- ==== Proof.Link.lean ====
module

public import proofs.«01_k».proof.Proof.Scal

@[expose] public section

noncomputable section

/-! The kernel's block values are the reference's values, when the block's operands are the prepared arguments and the
arguments are real. -/
namespace Cert.Spec

open Idealize.ShloMosaic Cert.KernelIdeal Cert.KernelIdeal.Model

/-- Every argument is real at every index. -/
structure Real' (A : Arg) : Prop where
  x : ∀ i, IsR (A.x i)
  md : ∀ i, IsR (A.md i)
  ng : ∀ i, IsR (A.ng i)
  wi : ∀ i, IsR (A.wi i)
  ca : ∀ i, IsR (A.ca i)
  cb : ∀ i, IsR (A.cb i)
  bb : ∀ i, IsR (A.bb i)
  wa : ∀ i, IsR (A.wa i)
  ba : ∀ i, IsR (A.ba i)
  wx : ∀ i, IsR (A.wx i)
  bx : ∀ i, IsR (A.bx i)
  la : ∀ i, IsR (A.la i)

/-- The block's operands are the prepared arguments; row `s` of the block is line `ln s`. -/
structure Feeds (E : In Ideal) (A : Arg) (ln : Fin 8 → Fin 128) : Prop where
  x : ∀ s t q, E.X0 (ix3 s t q) = A.x (ix3 0 (tok (ln s) t) q)
  ng : ∀ q, E.X1 (ix2 0 q) = A.ng (ix2 0 q)
  md : ∀ q, E.X2 (ix2 0 q) = A.md (ix2 0 q)
  v : ∀ r g l, E.X3 (ix2 r (vcol g l)) = A.wi (ix3 0 r (col 4096 (by omega) (chan g l)))
  p0 : ∀ r g l, E.X3 (ix2 r (pcol g 0 l)) = A.wi (ix3 0 r (col 5120 (by omega) (chan g l)))
  p1 : ∀ r g l, E.X3 (ix2 r (pcol g 1 l)) = A.wi (ix3 0 r (col 1024 (by omega) (chan g l)))
  p2 : ∀ r g l, E.X3 (ix2 r (pcol g 2 l)) = A.wi (ix3 0 r (col 2048 (by omega) (chan g l)))
  p3 : ∀ r g l, E.X3 (ix2 r (pcol g 3 l)) = A.wi (ix3 0 r (col 0 (by omega) (chan g l)))
  p4 : ∀ r g l, E.X3 (ix2 r (pcol g 4 l)) = A.wi (ix3 0 r (col 3072 (by omega) (chan g l)))
  ca : ∀ j q, E.X4 (ix2 j q) = A.ca (ix3 0 j q)
  cb : ∀ j q, E.X5 (ix2 j q) = A.cb (ix3 0 j q)
  bb : ∀ q, E.X6 (ix2 0 q) = A.bb (ix2 0 q)
  wa : ∀ (d : Fin 2) (g a : Fin 4) (i : Fin 64) (b : Fin 4) (j : Fin 64), E.X7 (ix4 d g ⟨64 * a + i, by omega⟩ ⟨64 * b + j, by omega⟩)
    = ch * A.wa (ix5 0 d ⟨4 * g + a, by omega⟩ i j) * (if a = b then (1 : EReal) else 0)
  wx : ∀ (d : Fin 2) (g a : Fin 4) (i : Fin 64) (b : Fin 4) (j : Fin 64), E.X7 (ix4 d g ⟨64 * a + i, by omega⟩ ⟨256 + (64 * b + j), by omega⟩)
    = ch * A.wx (ix5 0 d ⟨4 * g + a, by omega⟩ i j) * (if a = b then (1 : EReal) else 0)
  ba : ∀ d q, E.X8 (ix2 d q) = A.ba (ix3 0 d q)
  bx : ∀ d q, E.X9 (ix2 d q) = A.bx (ix3 0 d q)
  la : ∀ d q, E.X10 (ix2 d q) = A.la (ix3 0 d q)

section Reals
variable {A : Arg} (H : Real' A)
include H

theorem MS_pos (r : Fin 8192) : ∃ v : ℝ, 0 < v ∧ MS A r = (v : EReal) := by
  choose f hf using fun m : Fin 2048 => H.x (ix3 0 r m)
  obtain ⟨e, he, ee⟩ := eps_eq
  refine ⟨(∑ m, f m * f m) * (1 / 2048) + e, add_pos_of_nonneg_of_pos (mul_nonneg (Finset.sum_nonneg fun i _ => mul_self_nonneg _) (by norm_num)) he, ?_⟩
  unfold MS
  rw [ee, width_eq, Ideal.div_coe (by norm_num), EReal.coe_add, EReal.coe_mul, ← coe_sum]
  refine congrArg (· + _) (congrArg (· * _) (Finset.sum_congr rfl fun m _ => ?_))
  rw [hf m, EReal.coe_mul]

theorem HR_real (r : Fin 8192) (m : Fin 2048) : IsR (HR A r m) := by
  obtain ⟨v, hv, e⟩ := MS_pos H r
  unfold HR
  rw [e, Ideal.rsqrt_coe, if_neg (by linarith), if_neg (by linarith)]
  exact ((((H.x _).mul (.coe _)).mul (H.ng _)).mul (IsR.one.add (H.md _))).add (H.md _)
theorem PR_real (r : Fin 8192) (j : Fin 6144) : IsR (PR A r j) := IsR.sum fun m => (HR_real H r m).mul (H.wi _)

omit H in
theorem back_real {f : Fin 64 → EReal} (h : ∀ t, IsR (f t)) (d : ℕ) (t : Fin 64) : IsR (back f d t) := by
  unfold back; split; exacts [h _, .zero]
omit H in
theorem fore_real {f : Fin 64 → EReal} (h : ∀ t, IsR (f t)) (t : Fin 64) : IsR (fore f t) := by
  unfold fore; split; exacts [h _, .zero]
theorem XR_real (n : Fin 128) (t : Fin 64) (q : Fin 1024) : IsR (XR A n t q) := by
  have v : ∀ t, IsR (VR A n q t) := fun t => PR_real H _ _
  exact (((((back_real v 2 t).mul (H.cb _)).add ((back_real v 1 t).mul (H.cb _))).add ((v t).mul (H.cb _))).add ((fore_real v t).mul (H.cb _))).add (H.bb _)

end Reals

section Feed
variable {E : In Ideal} {A : Arg} {ln : Fin 8 → Fin 128} (F : Feeds E A ln)
include F

theorem MS_eq (s : Fin 8) (t : Fin 64) : msq E s t = MS A (tok (ln s) t) := by
  unfold msq MS
  refine congrArg (fun z : EReal => Ideal.div z _ + _) (Finset.sum_congr rfl fun m _ => ?_)
  exact congrArg₂ (· * ·) (F.x s t m) (F.x s t m)

theorem HL_eq (s : Fin 8) (t : Fin 64) (m : Fin 2048) : HL E s t m = HR A (tok (ln s) t) m := by
  unfold HR
  rw [mul_assoc (A.x _ * _), ← MS_eq F]
  exact congrArg₂ (· + ·) (congrArg₂ (· * ·) (congrArg (· * _) (F.x s t m)) (congrArg₂ (· * ·) (F.ng m) (congrArg₂ (· + ·) rfl (F.md _)))) (F.md _)

theorem PX_eq (s : Fin 8) (t : Fin 64) (q j : Fin 6144) (h : ∀ r, E.X3 (ix2 r q) = A.wi (ix3 0 r j)) : PX E s t q = PR A (tok (ln s) t) j :=
  Finset.sum_congr rfl fun m _ => congrArg₂ (· * ·) (HL_eq F s t m) (h m)

theorem v_eq (s : Fin 8) (g : Fin 4) (l : Fin 256) : (fun t => PX E s t (vcol g l)) = VR A (ln s) (chan g l) :=
  funext fun t => PX_eq F s t _ _ fun r => F.v r g l

theorem XB_eq (s : Fin 8) (t : Fin 64) (g : Fin 4) (l : Fin 256) : XBX E s t g l = XR A (ln s) t (chan g l) := by
  unfold XBX XR
  rw [v_eq F]
  exact congrArg₂ (· + ·) (congrArg₂ (· + ·) (congrArg₂ (· + ·) (congrArg₂ (· + ·) (congrArg (_ * ·) (F.cb 0 _)) (congrArg (_ * ·) (F.cb 1 _)))
    (congrArg₂ (· * ·) (congrFun (v_eq F s g l) t) (F.cb 2 _))) (congrArg (_ * ·) (F.cb 3 _))) (F.bb _)

theorem ya_eq (H : Real' A) (s : Fin 8) (t : Fin 64) (g : Fin 4) (l : Fin 256) : yaX E s t g l = YA A (ln s) (chan g l) t := by
  have u : (fun t => PX E s t (pcol g 1 l) * PX E s t (pcol g 2 l)) = UR A (ln s) (chan g l) :=
    funext fun t => congrArg₂ (· * ·) (PX_eq F s t _ _ fun r => F.p1 r g l) (PX_eq F s t _ _ fun r => F.p2 r g l)
  unfold yaX YA CR
  rw [u, PX_eq F s t _ _ fun r => F.p3 r g l, PX_eq F s t _ _ fun r => F.p4 r g l, silu_eq (PR_real H _ _)]
  refine congrArg (· * _) (congrArg (_ * ·) ?_)
  exact congrArg₂ (· + ·) (congrArg₂ (· + ·) (congrArg (_ * ·) (F.ca 0 _)) (congrArg₂ (· * ·) (congrFun u t) (F.ca 1 _))) (congrArg (_ * ·) (F.ca 2 _))

theorem sq_eq (H : Real' A) (s : Fin 8) (t : Fin 64) (g : Fin 4) (l : Fin 256) : sqX E s t g l = SQ A (ln s) (chan g l) t := by
  unfold sqX SQ
  rw [PX_eq F s t _ _ fun r => F.p0 r g l, silu_eq (PR_real H _ _)]

end Feed

/-- A sum over a group's channels, head by head. -/
theorem sum_heads (f : Fin 256 → EReal) : ∑ i, f i = ∑ a : Fin 4, ∑ i : Fin 64, f ⟨64 * a + i, by omega⟩ := by
  rw [← Fintype.sum_prod_type', ← Equiv.sum_comp (finProdFinEquiv (m := 4) (n := 64))]
  exact Finset.sum_congr rfl fun p _ => congrArg f (Fin.ext (by simp [finProdFinEquiv]; omega))

/-- A block-diagonal product keeps the diagonal block. -/
theorem diag (x : Fin 256 → EReal) (w : Fin 4 → Fin 64 → EReal) (W : Fin 256 → EReal) (b : Fin 4)
    (h : ∀ (a : Fin 4) (i : Fin 64), W ⟨64 * a + i, by omega⟩ = ch * w a i * (if a = b then (1 : EReal) else 0)) :
    ∑ i, x i * W i = ∑ i : Fin 64, x ⟨64 * b + i, by omega⟩ * (ch * w b i) := by
  rw [sum_heads, Finset.sum_eq_single b]
  · exact Finset.sum_congr rfl fun i _ => by rw [h, if_pos rfl, mul_one]
  · intro a _ ha
    exact Finset.sum_eq_zero fun i _ => by rw [h, if_neg ha, mul_zero, mul_zero]
  · exact fun hb => absurd (Finset.mem_univ _) hb

/-- Half of a gate's argument. -/
theorem half_gate (x w : Fin 64 → EReal) (b : EReal) (hx : ∀ i, IsR (x i)) (hw : ∀ i, IsR (w i)) (hb : IsR b) :
    ∃ y : ℝ, ∑ i, x i * (ch * w i) + ch * b = ((y / 2 : ℝ) : EReal) ∧ ∑ i, w i * x i + b = (y : EReal) := by
  choose X eX using hx
  choose W eW using hw
  obtain ⟨B, rfl⟩ := hb
  refine ⟨∑ i, W i * X i + B, ?_, ?_⟩
  · rw [Finset.sum_congr rfl fun i _ => show x i * (ch * w i) = ((W i * X i / 2 : ℝ) : EReal) from ?_, coe_sum, h_ch, ← EReal.coe_mul, ← EReal.coe_add, ← Finset.sum_div]
    · refine congrArg _ ?_
      ring
    · rw [eX, eW, h_ch, ← EReal.coe_mul, ← EReal.coe_mul]
      refine congrArg _ ?_
      ring
  · rw [Finset.sum_congr rfl fun i _ => show w i * x i = ((W i * X i : ℝ) : EReal) from ?_, coe_sum, ← EReal.coe_add]
    rw [eX, eW, ← EReal.coe_mul]

/-- A weight at equal head and row. -/
theorem w_congr (w : (⟨5, ![1, 2, 16, 64, 64]⟩ : Shape).Idx → EReal) (d : Fin 2) (i : Fin 64) {h h' : Fin 16} {j j' : Fin 64} (e : h = h') (e' : j = j') :
    w (ix5 0 d h i j) = w (ix5 0 d h' i j') := by rw [e, e']

section Gates
variable {E : In Ideal} {A : Arg} {ln : Fin 8 → Fin 128} (F : Feeds E A ln) (H : Real' A)
include F H

/-- The two gates' arguments, halved. -/
theorem gate (p : Fin 2) (w : (⟨5, ![1, 2, 16, 64, 64]⟩ : Shape).Idx → EReal) (β : (⟨3, ![1, 2, 1024]⟩ : Shape).Idx → EReal)
    (hw : ∀ i, IsR (w i)) (hβ : ∀ i, IsR (β i)) (d : Fin 2) (s : Fin 8) (t : Fin 64) (g : Fin 4) (l : Fin 256)
    (h : ∀ (a : Fin 4) (i : Fin 64), E.X7 (ix4 d g ⟨64 * a + i, by omega⟩ ⟨256 * p + l, by omega⟩)
      = ch * w (ix5 0 d ⟨4 * g + a, by omega⟩ i ⟨l % 64, by omega⟩) * (if a = ⟨l / 64, by omega⟩ then (1 : EReal) else 0)) :
    ∃ y : ℝ, PREX E d p s t g l + ch * β (ix3 0 d (chan g l)) = ((y / 2 : ℝ) : EReal) ∧ GR A w β d (ln s) t (chan g l) = sg y := by
  obtain ⟨y, h1, h2⟩ := half_gate (fun i => XR A (ln s) t ⟨(256 * g.val + l) / 64 * 64 + i, by omega⟩)
    (fun i => w (ix5 0 d ⟨(256 * g.val + l) / 64, by omega⟩ i ⟨(256 * g.val + l) % 64, by omega⟩)) (β (ix3 0 d (chan g l)))
    (fun i => XR_real H _ _ _) (fun i => hw _) (hβ _)
  refine ⟨y, ?_, congrArg sg h2⟩
  rw [← h1]
  refine congrArg (· + _) ?_
  unfold PREX
  refine (diag _ (fun a i => w (ix5 0 d ⟨4 * g + a, by omega⟩ i ⟨l % 64, by omega⟩)) _ ⟨l / 64, by omega⟩ h).trans (Finset.sum_congr rfl fun i _ => ?_)
  refine congrArg₂ (· * ·) ((XB_eq F _ _ _ _).trans (congrArg (XR A (ln s) t) (Fin.ext (by dsimp only; omega)))) (congrArg (ch * ·) (w_congr w d i (Fin.ext ?_) (Fin.ext ?_)))
  · dsimp only; omega
  · dsimp only; omega

theorem gateA (d : Fin 2) (s : Fin 8) (t : Fin 64) (g : Fin 4) (l : Fin 256) :
    ∃ y : ℝ, PREX E d 0 s t g l + ch * E.X8 (ix2 d (chan g l)) = ((y / 2 : ℝ) : EReal) ∧ GR A A.wa A.ba d (ln s) t (chan g l) = sg y := by
  rw [F.ba]
  refine gate F H 0 A.wa A.ba H.wa H.ba d s t g l fun a i => ?_
  refine Eq.trans (congrArg E.X7 (congrArg (ix4 d g _) (Fin.ext ?_))) (F.wa d g a i ⟨l / 64, by omega⟩ ⟨l % 64, by omega⟩)
  simp; omega

theorem gateX (d : Fin 2) (s : Fin 8) (t : Fin 64) (g : Fin 4) (l : Fin 256) :
    ∃ y : ℝ, PREX E d 1 s t g l + ch * E.X9 (ix2 d (chan g l)) = ((y / 2 : ℝ) : EReal) ∧ GR A A.wx A.bx d (ln s) t (chan g l) = sg y := by
  rw [F.bx]
  refine gate F H 1 A.wx A.bx H.wx H.bx d s t g l fun a i => ?_
  refine Eq.trans (congrArg E.X7 (congrArg (ix4 d g _) (Fin.ext ?_))) (F.wx d g a i ⟨l / 64, by omega⟩ ⟨l % 64, by omega⟩)
  simp; omega

theorem A_eq (d : Fin 2) (s : Fin 8) (t : Fin 64) (g : Fin 4) (l : Fin 256) : AX E d s t g l = AR A d (ln s) (chan g l) t := by
  obtain ⟨y, h1, h2⟩ := gateA F H d s t g l
  obtain ⟨v, hv⟩ := H.la (ix3 0 d (chan g l))
  unfold AX UX AR LA
  rw [h2, F.la, hv]
  exact coefA y v _ _ h1

theorem B_eq (d : Fin 2) (s : Fin 8) (t : Fin 64) (g : Fin 4) (l : Fin 256) : BX E d s t g l = BR A d (ln s) (chan g l) t := by
  obtain ⟨y, h1, h2⟩ := gateA F H d s t g l
  obtain ⟨y', h1', h2'⟩ := gateX F H d s t g l
  obtain ⟨v, hv⟩ := H.la (ix3 0 d (chan g l))
  obtain ⟨x, hx⟩ := XR_real H (ln s) t (chan g l)
  unfold BX AX UX BR LA
  rw [h2, h2', F.la, hv, XB_eq F, hx]
  exact coefB y v y' x _ _ _ _ h1 h1'

omit F H in
theorem flip_eq (f : Fin 64 → EReal) : flip f = fun t => f t.rev :=
  funext fun t => congrArg f (Fin.ext (by simp [Fin.rev]))

theorem hf_eq (s : Fin 8) (g : Fin 4) (l : Fin 256) : hfX E s g l = sH (AR A 0 (ln s) (chan g l)) (BR A 0 (ln s) (chan g l)) :=
  congrArg₂ sH (funext fun t => A_eq F H 0 s t g l) (funext fun t => B_eq F H 0 s t g l)
theorem pf_eq (s : Fin 8) (g : Fin 4) (l : Fin 256) : pfX E s g l = sP (AR A 0 (ln s) (chan g l)) :=
  congrArg sP (funext fun t => A_eq F H 0 s t g l)
theorem hr_eq (s : Fin 8) (g : Fin 4) (l : Fin 256) :
    hrX E s g l = sH (fun t => AR A 1 (ln s) (chan g l) t.rev) (fun t => BR A 1 (ln s) (chan g l) t.rev) :=
  congrArg₂ sH ((flip_eq _).trans (funext fun t => A_eq F H 1 s t.rev g l)) ((flip_eq _).trans (funext fun t => B_eq F H 1 s t.rev g l))
theorem pr_eq (s : Fin 8) (g : Fin 4) (l : Fin 256) : prX E s g l = sP (fun t => AR A 1 (ln s) (chan g l) t.rev) :=
  congrArg sP ((flip_eq _).trans (funext fun t => A_eq F H 1 s t.rev g l))

end Gates

end Cert.Spec

end
-- ==== Proof.RefPre.lean ====
module

public import proofs.«01_k».proof.Proof.Spec
public import proofs.«01_k».proof.Proof.Gen.ReferenceIdeal.Run
public import Idealize.ShloMosaic.Lib.StableHlo.ReadAt
public import Idealize.ShloMosaic.Lib.Pointwise
public import Idealize.ShloMosaic.Lib.Claim

@[expose] public section

set_option maxRecDepth 16384
set_option maxHeartbeats 400000

noncomputable section

/-! The reference before its loop, entry by entry. -/
namespace Cert.ReferenceIdeal.Val

open Idealize.ShloMosaic Idealize.ShloMosaic.TcCoe Idealize.SL.Sem Idealize.ShloMosaic.StableHlo Cert.ReferenceIdeal Cert.ReferenceIdeal.Gen Cert.ReferenceIdeal.Value Cert.Spec
open Cert.KernelIdeal.Model (back fore)

variable (m : (ℓ : Loc nD τ sig) → Buf (Elt Ideal) ℓ) (c : Dev nD)

/-- The arguments held at the start. -/
def arg : Arg where
  x := m ((c.tc : Thread nD τ).loc main_arg0)
  md := m ((c.tc : Thread nD τ).loc main_arg1)
  ng := m ((c.tc : Thread nD τ).loc main_arg2)
  wi := m ((c.tc : Thread nD τ).loc main_arg3)
  ca := m ((c.tc : Thread nD τ).loc main_arg4)
  cb := m ((c.tc : Thread nD τ).loc main_arg5)
  bb := m ((c.tc : Thread nD τ).loc main_arg6)
  wa := m ((c.tc : Thread nD τ).loc main_arg7)
  ba := m ((c.tc : Thread nD τ).loc main_arg8)
  wx := m ((c.tc : Thread nD τ).loc main_arg9)
  bx := m ((c.tc : Thread nD τ).loc main_arg10)
  la := m ((c.tc : Thread nD τ).loc main_arg11)

/-- The buffers at the start. -/
def W0 : Valuation τ sig (Elt Ideal) := launchContents m c
/-- The buffers after stretch 0. -/
def W1 : Valuation τ sig (Elt Ideal) := after hostOps0 (W0 m c)
/-- The buffers after stretch 1. -/
def W2 : Valuation τ sig (Elt Ideal) := after hostOps0_1 (W1 m c)
/-- The buffers after stretch 2. -/
def W3 : Valuation τ sig (Elt Ideal) := after hostOps0_2 (W2 m c)
/-- The buffers after stretch 3. -/
def W4 : Valuation τ sig (Elt Ideal) := after hostOps0_3 (W3 m c)
/-- The buffers after stretch 4. -/
def W5 : Valuation τ sig (Elt Ideal) := after hostOps0_4 (W4 m c)
/-- The buffers after stretch 5. -/
def W6 : Valuation τ sig (Elt Ideal) := after hostOps0_5 (W5 m c)
/-- The buffers after stretch 6. -/
def W7 : Valuation τ sig (Elt Ideal) := after hostOps0_6 (W6 m c)
/-- The buffers after stretch 7. -/
def W8 : Valuation τ sig (Elt Ideal) := after hostOps0_7 (W7 m c)
/-- The buffers after stretch 8. -/
def W9 : Valuation τ sig (Elt Ideal) := after hostOps0_8 (W8 m c)
/-- The buffers after stretch 9. -/
def W10 : Valuation τ sig (Elt Ideal) := after hostOps0_9 (W9 m c)
/-- The buffers after stretch 10. -/
def W11 : Valuation τ sig (Elt Ideal) := after hostOps0_10 (W10 m c)
/-- The buffers after stretch 11. -/
def W12 : Valuation τ sig (Elt Ideal) := after hostOps0_11 (W11 m c)
/-- The buffers after stretch 12. -/
def W13 : Valuation τ sig (Elt Ideal) := after hostOps0_12 (W12 m c)

theorem sz : (FloatOps.sitofp (F := Ideal) (w := 32) .f32 0#32 : EReal) = 0 := by
  show (((0#32 : BitVec 32).toInt : ℝ) : EReal) = 0
  simp

theorem tok_div (n : Fin 128) (t : Fin 64) : (⟨(tok n t).val / 64, by omega⟩ : Fin 128) = n := Fin.ext (by simp only [tok]; omega)
theorem tok_mod (n : Fin 128) (t : Fin 64) : (⟨(tok n t).val % 64, by omega⟩ : Fin 64) = t := Fin.ext (by simp only [tok]; omega)

theorem tok_mod' (n : Fin 128) (t : Fin 64) : (tok n t).val % 64 = t.val := by simp only [tok]; omega

theorem padB (d e : ℕ) (f : Fin 64 → EReal) (a : ℕ) (t : Fin 64) (ha : a + e = d + t.val) :
    (if h : d ≤ a ∧ a - d < 64 then f ⟨a - d, h.2⟩ else 0) = back f e t := by
  unfold back
  have := t.isLt
  by_cases h : e ≤ t.val
  · rw [dif_pos h, dif_pos ⟨by omega, by omega⟩]; exact congrArg f (Fin.ext (by dsimp only; omega))
  · rw [dif_neg h, dif_neg (by omega)]
theorem padM (d : ℕ) (f : Fin 64 → EReal) (a : ℕ) (t : Fin 64) (ha : a = d + t.val) :
    (if h : d ≤ a ∧ a - d < 64 then f ⟨a - d, h.2⟩ else 0) = f t := by
  have := t.isLt
  rw [dif_pos ⟨by omega, by omega⟩]; exact congrArg f (Fin.ext (by dsimp only; omega))
theorem padF (d : ℕ) (f : Fin 64 → EReal) (a : ℕ) (t : Fin 64) (ha : a = d + 1 + t.val) :
    (if h : d ≤ a ∧ a - d < 64 then f ⟨a - d, h.2⟩ else 0) = fore f t := by
  unfold fore
  have := t.isLt
  by_cases h : t.val + 1 < 64
  · rw [dif_pos h, dif_pos ⟨by omega, by omega⟩]; exact congrArg f (Fin.ext (by dsimp only; omega))
  · rw [dif_neg h, dif_neg (by omega)]

theorem entry_eq : entryContents preI m c = W13 m c := rfl

theorem a0_0 : W0 m c (Proc.devRef .tc main_arg0) = (arg m c).x := rfl
theorem a1_0 : W0 m c (Proc.devRef .tc main_arg1) = (arg m c).md := rfl
theorem a2_0 : W0 m c (Proc.devRef .tc main_arg2) = (arg m c).ng := rfl
theorem a3_0 : W0 m c (Proc.devRef .tc main_arg3) = (arg m c).wi := rfl
theorem a4_0 : W0 m c (Proc.devRef .tc main_arg4) = (arg m c).ca := rfl

theorem v23_at (r : Fin 8192) (q : Fin 1024) : W1 m c (Proc.devRef .tc main_v23) (ix2 r q) = PR (arg m c) r (col 0 (by omega) q) := by
  unfold W1
  after_reads_at
  rw [a0_0, a1_0, a2_0, a3_0]
  exact congrArg (PR (arg m c) r) (Fin.ext (Nat.zero_add q.val).symm : (⟨q.val, by omega⟩ : Fin 6144) = col 0 (by omega) q)

theorem v24_at (r : Fin 8192) (q : Fin 1024) : W1 m c (Proc.devRef .tc main_v24) (ix2 r q) = PR (arg m c) r (col 1024 (by omega) q) := by
  unfold W1
  after_reads_at
  rw [a0_0, a1_0, a2_0, a3_0]
  rfl

theorem v25_at (r : Fin 8192) (q : Fin 1024) : W1 m c (Proc.devRef .tc main_v25) (ix2 r q) = PR (arg m c) r (col 2048 (by omega) q) := by
  unfold W1
  after_reads_at
  rw [a0_0, a1_0, a2_0, a3_0]
  rfl

theorem v26_at (r : Fin 8192) (q : Fin 1024) : W1 m c (Proc.devRef .tc main_v26) (ix2 r q) = PR (arg m c) r (col 3072 (by omega) q) := by
  unfold W1
  after_reads_at
  rw [a0_0, a1_0, a2_0, a3_0]
  rfl

theorem v27_at (r : Fin 8192) (q : Fin 1024) : W1 m c (Proc.devRef .tc main_v27) (ix2 r q) = PR (arg m c) r (col 4096 (by omega) q) := by
  unfold W1
  after_reads_at
  rw [a0_0, a1_0, a2_0, a3_0]
  rfl

theorem v28_at (r : Fin 8192) (q : Fin 1024) : W1 m c (Proc.devRef .tc main_v28) (ix2 r q) = PR (arg m c) r (col 5120 (by omega) q) := by
  unfold W1
  after_reads_at
  rw [a0_0, a1_0, a2_0, a3_0]
  rfl

theorem v31_at (n : Fin 128) (t : Fin 64) (q : Fin 1024) : W1 m c (Proc.devRef .tc main_v31) (ix3 n t q) = UR (arg m c) n q t := by
  unfold W1
  after_reads_at
  rw [a0_0, a1_0, a2_0, a3_0]
  rfl
theorem v30_at (j : Fin 3) (q : Fin 1024) : W1 m c (Proc.devRef .tc main_v30) (ix2 j q) = (arg m c).ca (ix3 0 j q) := by
  unfold W1
  after_reads_at
  rw [a4_0]
theorem c_at : W1 m c (Proc.devRef .tc main_c) (Shape.Idx.first h_S_) = 0#32 := by
  unfold W1
  after_reads_at

theorem v32_at (n : Fin 128) (t : Fin 66) (q : Fin 1024) : W2 m c (Proc.devRef .tc main_v32) (ix3 n t q)
    = if h : 1 ≤ t.val ∧ t.val - 1 < 64 then UR (arg m c) n q ⟨t.val - 1, h.2⟩ else 0 := by
  unfold W2
  after_reads_at
  rw [c_at]
  exact dite_congr rfl (fun h => v31_at m c _ _ _) (fun _ => sz)
theorem st_v30_2 : W2 m c (Proc.devRef .tc main_v30) = W1 m c (Proc.devRef .tc main_v30) :=
  after_of_writes_sub hostOps0_1 (W1 m c) hostOps0_1_writes (by decide +kernel)
theorem k_v30_2 : W2 m c (Proc.devRef .tc main_v30) = W1 m c (Proc.devRef .tc main_v30) := by
  rw [st_v30_2]
theorem st_v27_2 : W2 m c (Proc.devRef .tc main_v27) = W1 m c (Proc.devRef .tc main_v27) :=
  after_of_writes_sub hostOps0_1 (W1 m c) hostOps0_1_writes (by decide +kernel)
theorem k_v27_2 : W2 m c (Proc.devRef .tc main_v27) = W1 m c (Proc.devRef .tc main_v27) := by
  rw [st_v27_2]
theorem st_arg5_1 : W1 m c (Proc.devRef .tc main_arg5) = W0 m c (Proc.devRef .tc main_arg5) :=
  after_of_writes_sub hostOps0 (W0 m c) hostOps0_writes (by decide +kernel)
theorem st_arg5_2 : W2 m c (Proc.devRef .tc main_arg5) = W1 m c (Proc.devRef .tc main_arg5) :=
  after_of_writes_sub hostOps0_1 (W1 m c) hostOps0_1_writes (by decide +kernel)
theorem k_arg5_2 : W2 m c (Proc.devRef .tc main_arg5) = W0 m c (Proc.devRef .tc main_arg5) := by
  rw [st_arg5_2, st_arg5_1]
theorem a5_2 : W2 m c (Proc.devRef .tc main_arg5) = (arg m c).cb := (k_arg5_2 m c).trans rfl

theorem v53_at (n : Fin 128) (t : Fin 64) (q : Fin 1024) : W3 m c (Proc.devRef .tc main_v53) (ix2 (tok n t) q) = CR (arg m c) n t q := by
  unfold W3
  after_reads_at
  rw [k_v30_2, v30_at, v30_at, v30_at, v32_at, v32_at, v32_at, tok_div]
  have hm := tok_mod' n t
  exact congrArg₂ (· + ·) (congrArg₂ (· + ·) (congrArg (· * _) (padB 1 1 _ _ t (by dsimp only; omega)))
    (congrArg (· * _) (padM 1 _ _ t (by dsimp only; omega)))) (congrArg (· * _) (padF 1 _ _ t (by dsimp only; omega)))
theorem v54_at (j : Fin 4) (q : Fin 1024) : W3 m c (Proc.devRef .tc main_v54) (ix2 j q) = (arg m c).cb (ix3 0 j q) := by
  unfold W3
  after_reads_at
  rw [a5_2]
theorem v55_at (n : Fin 128) (t : Fin 64) (q : Fin 1024) : W3 m c (Proc.devRef .tc main_v55) (ix3 n t q) = VR (arg m c) n q t := by
  unfold W3
  after_reads_at
  rw [k_v27_2, v27_at]
  rfl
theorem c3_at : W3 m c (Proc.devRef .tc main_c_3) (Shape.Idx.first h_S_) = 0#32 := by
  unfold W3
  after_reads_at
theorem v56_at (n : Fin 128) (t : Fin 67) (q : Fin 1024) : W4 m c (Proc.devRef .tc main_v56) (ix3 n t q)
    = if h : 2 ≤ t.val ∧ t.val - 2 < 64 then VR (arg m c) n q ⟨t.val - 2, h.2⟩ else 0 := by
  unfold W4
  after_reads_at
  rw [c3_at]
  exact dite_congr rfl (fun h => v55_at m c _ _ _) (fun _ => sz)
theorem st_v54_4 : W4 m c (Proc.devRef .tc main_v54) = W3 m c (Proc.devRef .tc main_v54) :=
  after_of_writes_sub hostOps0_3 (W3 m c) hostOps0_3_writes (by decide +kernel)
theorem k_v54_4 : W4 m c (Proc.devRef .tc main_v54) = W3 m c (Proc.devRef .tc main_v54) := by
  rw [st_v54_4]
theorem st_arg6_1 : W1 m c (Proc.devRef .tc main_arg6) = W0 m c (Proc.devRef .tc main_arg6) :=
  after_of_writes_sub hostOps0 (W0 m c) hostOps0_writes (by decide +kernel)
theorem st_arg6_2 : W2 m c (Proc.devRef .tc main_arg6) = W1 m c (Proc.devRef .tc main_arg6) :=
  after_of_writes_sub hostOps0_1 (W1 m c) hostOps0_1_writes (by decide +kernel)
theorem st_arg6_3 : W3 m c (Proc.devRef .tc main_arg6) = W2 m c (Proc.devRef .tc main_arg6) :=
  after_of_writes_sub hostOps0_2 (W2 m c) hostOps0_2_writes (by decide +kernel)
theorem st_arg6_4 : W4 m c (Proc.devRef .tc main_arg6) = W3 m c (Proc.devRef .tc main_arg6) :=
  after_of_writes_sub hostOps0_3 (W3 m c) hostOps0_3_writes (by decide +kernel)
theorem k_arg6_4 : W4 m c (Proc.devRef .tc main_arg6) = W0 m c (Proc.devRef .tc main_arg6) := by
  rw [st_arg6_4, st_arg6_3, st_arg6_2, st_arg6_1]
theorem a6_4 : W4 m c (Proc.devRef .tc main_arg6) = (arg m c).bb := (k_arg6_4 m c).trans rfl
theorem st_arg7_1 : W1 m c (Proc.devRef .tc main_arg7) = W0 m c (Proc.devRef .tc main_arg7) :=
  after_of_writes_sub hostOps0 (W0 m c) hostOps0_writes (by decide +kernel)
theorem st_arg7_2 : W2 m c (Proc.devRef .tc main_arg7) = W1 m c (Proc.devRef .tc main_arg7) :=
  after_of_writes_sub hostOps0_1 (W1 m c) hostOps0_1_writes (by decide +kernel)
theorem st_arg7_3 : W3 m c (Proc.devRef .tc main_arg7) = W2 m c (Proc.devRef .tc main_arg7) :=
  after_of_writes_sub hostOps0_2 (W2 m c) hostOps0_2_writes (by decide +kernel)
theorem st_arg7_4 : W4 m c (Proc.devRef .tc main_arg7) = W3 m c (Proc.devRef .tc main_arg7) :=
  after_of_writes_sub hostOps0_3 (W3 m c) hostOps0_3_writes (by decide +kernel)
theorem k_arg7_4 : W4 m c (Proc.devRef .tc main_arg7) = W0 m c (Proc.devRef .tc main_arg7) := by
  rw [st_arg7_4, st_arg7_3, st_arg7_2, st_arg7_1]
theorem a7_4 : W4 m c (Proc.devRef .tc main_arg7) = (arg m c).wa := (k_arg7_4 m c).trans rfl
theorem st_arg8_1 : W1 m c (Proc.devRef .tc main_arg8) = W0 m c (Proc.devRef .tc main_arg8) :=
  after_of_writes_sub hostOps0 (W0 m c) hostOps0_writes (by decide +kernel)
theorem st_arg8_2 : W2 m c (Proc.devRef .tc main_arg8) = W1 m c (Proc.devRef .tc main_arg8) :=
  after_of_writes_sub hostOps0_1 (W1 m c) hostOps0_1_writes (by decide +kernel)
theorem st_arg8_3 : W3 m c (Proc.devRef .tc main_arg8) = W2 m c (Proc.devRef .tc main_arg8) :=
  after_of_writes_sub hostOps0_2 (W2 m c) hostOps0_2_writes (by decide +kernel)
theorem st_arg8_4 : W4 m c (Proc.devRef .tc main_arg8) = W3 m c (Proc.devRef .tc main_arg8) :=
  after_of_writes_sub hostOps0_3 (W3 m c) hostOps0_3_writes (by decide +kernel)
theorem k_arg8_4 : W4 m c (Proc.devRef .tc main_arg8) = W0 m c (Proc.devRef .tc main_arg8) := by
  rw [st_arg8_4, st_arg8_3, st_arg8_2, st_arg8_1]
theorem a8_4 : W4 m c (Proc.devRef .tc main_arg8) = (arg m c).ba := (k_arg8_4 m c).trans rfl
theorem st_arg9_1 : W1 m c (Proc.devRef .tc main_arg9) = W0 m c (Proc.devRef .tc main_arg9) :=
  after_of_writes_sub hostOps0 (W0 m c) hostOps0_writes (by decide +kernel)
theorem st_arg9_2 : W2 m c (Proc.devRef .tc main_arg9) = W1 m c (Proc.devRef .tc main_arg9) :=
  after_of_writes_sub hostOps0_1 (W1 m c) hostOps0_1_writes (by decide +kernel)
theorem st_arg9_3 : W3 m c (Proc.devRef .tc main_arg9) = W2 m c (Proc.devRef .tc main_arg9) :=
  after_of_writes_sub hostOps0_2 (W2 m c) hostOps0_2_writes (by decide +kernel)
theorem st_arg9_4 : W4 m c (Proc.devRef .tc main_arg9) = W3 m c (Proc.devRef .tc main_arg9) :=
  after_of_writes_sub hostOps0_3 (W3 m c) hostOps0_3_writes (by decide +kernel)
theorem k_arg9_4 : W4 m c (Proc.devRef .tc main_arg9) = W0 m c (Proc.devRef .tc main_arg9) := by
  rw [st_arg9_4, st_arg9_3, st_arg9_2, st_arg9_1]
theorem a9_4 : W4 m c (Proc.devRef .tc main_arg9) = (arg m c).wx := (k_arg9_4 m c).trans rfl
theorem st_arg10_1 : W1 m c (Proc.devRef .tc main_arg10) = W0 m c (Proc.devRef .tc main_arg10) :=
  after_of_writes_sub hostOps0 (W0 m c) hostOps0_writes (by decide +kernel)
theorem st_arg10_2 : W2 m c (Proc.devRef .tc main_arg10) = W1 m c (Proc.devRef .tc main_arg10) :=
  after_of_writes_sub hostOps0_1 (W1 m c) hostOps0_1_writes (by decide +kernel)
theorem st_arg10_3 : W3 m c (Proc.devRef .tc main_arg10) = W2 m c (Proc.devRef .tc main_arg10) :=
  after_of_writes_sub hostOps0_2 (W2 m c) hostOps0_2_writes (by decide +kernel)
theorem st_arg10_4 : W4 m c (Proc.devRef .tc main_arg10) = W3 m c (Proc.devRef .tc main_arg10) :=
  after_of_writes_sub hostOps0_3 (W3 m c) hostOps0_3_writes (by decide +kernel)
theorem k_arg10_4 : W4 m c (Proc.devRef .tc main_arg10) = W0 m c (Proc.devRef .tc main_arg10) := by
  rw [st_arg10_4, st_arg10_3, st_arg10_2, st_arg10_1]
theorem a10_4 : W4 m c (Proc.devRef .tc main_arg10) = (arg m c).bx := (k_arg10_4 m c).trans rfl
theorem st_arg11_1 : W1 m c (Proc.devRef .tc main_arg11) = W0 m c (Proc.devRef .tc main_arg11) :=
  after_of_writes_sub hostOps0 (W0 m c) hostOps0_writes (by decide +kernel)
theorem st_arg11_2 : W2 m c (Proc.devRef .tc main_arg11) = W1 m c (Proc.devRef .tc main_arg11) :=
  after_of_writes_sub hostOps0_1 (W1 m c) hostOps0_1_writes (by decide +kernel)
theorem st_arg11_3 : W3 m c (Proc.devRef .tc main_arg11) = W2 m c (Proc.devRef .tc main_arg11) :=
  after_of_writes_sub hostOps0_2 (W2 m c) hostOps0_2_writes (by decide +kernel)
theorem st_arg11_4 : W4 m c (Proc.devRef .tc main_arg11) = W3 m c (Proc.devRef .tc main_arg11) :=
  after_of_writes_sub hostOps0_3 (W3 m c) hostOps0_3_writes (by decide +kernel)
theorem k_arg11_4 : W4 m c (Proc.devRef .tc main_arg11) = W0 m c (Proc.devRef .tc main_arg11) := by
  rw [st_arg11_4, st_arg11_3, st_arg11_2, st_arg11_1]
theorem a11_4 : W4 m c (Proc.devRef .tc main_arg11) = (arg m c).la := (k_arg11_4 m c).trans rfl

/-- Four products and a bias. -/
abbrev cv (a b c d e f g h i : EReal) : EReal := a * b + c * d + e * f + g * h + i
theorem xb_raw (r : Fin 8192) (n : Fin 128) (t : Fin 64) (q : Fin 1024) (hr : r = tok n t) :
    cv (W4 m c (Proc.devRef .tc main_v56) (ix3 ⟨r.val / 64, by omega⟩ ⟨r.val % 64, by omega⟩ q)) (W4 m c (Proc.devRef .tc main_v54) (ix2 0 q))
      (W4 m c (Proc.devRef .tc main_v56) (ix3 ⟨r.val / 64, by omega⟩ ⟨1 + r.val % 64, by omega⟩ q)) (W4 m c (Proc.devRef .tc main_v54) (ix2 1 q))
      (W4 m c (Proc.devRef .tc main_v56) (ix3 ⟨r.val / 64, by omega⟩ ⟨2 + r.val % 64, by omega⟩ q)) (W4 m c (Proc.devRef .tc main_v54) (ix2 2 q))
      (W4 m c (Proc.devRef .tc main_v56) (ix3 ⟨r.val / 64, by omega⟩ ⟨3 + r.val % 64, by omega⟩ q)) (W4 m c (Proc.devRef .tc main_v54) (ix2 3 q))
      (W4 m c (Proc.devRef .tc main_arg6) (ix2 0 q)) = XR (arg m c) n t q := by
  subst hr
  rw [k_v54_4, v54_at, v54_at, v54_at, v54_at, v56_at, v56_at, v56_at, v56_at, tok_div, a6_4]
  have hm := tok_mod' n t
  exact congrArg (· + _) (congrArg₂ (· + ·) (congrArg₂ (· + ·) (congrArg₂ (· + ·) (congrArg (· * _) (padB 2 2 _ _ t (by dsimp only; omega)))
    (congrArg (· * _) (padB 2 1 _ _ t (by dsimp only; omega)))) (congrArg (· * _) (padM 2 _ _ t (by dsimp only; omega)))) (congrArg (· * _) (padF 2 _ _ t (by dsimp only; omega))))
theorem v86_at (n : Fin 128) (t : Fin 64) (q : Fin 1024) : W5 m c (Proc.devRef .tc main_v86) (ix2 (tok n t) q) = XR (arg m c) n t q := by
  unfold W5
  after_reads_at
  exact xb_raw m c _ n t q rfl
theorem v124_at (n : Fin 128) (t : Fin 64) (q : Fin 1024) : W5 m c (Proc.devRef .tc main_v124) (ix2 (tok n t) q)
    = Ideal.ofBits .f32 0xC1000000#32 * GR (arg m c) (arg m c).wa (arg m c).ba 0 n t q := by
  unfold W5
  after_reads_at
  unfold GR sg
  refine congrArg (Ideal.ofBits .f32 0xC1000000#32 * ·) ?_
  refine congrArg (Ideal.div 1) (congrArg (1 + ·) (congrArg Ideal.exp (congrArg Neg.neg ?_)))
  refine congrArg₂ (· + ·) (Finset.sum_congr rfl fun i _ => congrArg₂ (· * ·) ?_ ?_) ?_
  · exact congrFun (a7_4 m c) _
  · exact xb_raw m c (tok n t) n t _ rfl
  · exact congrFun (a8_4 m c) _
theorem v122_at (n : Fin 128) (t : Fin 64) (q : Fin 1024) : W5 m c (Proc.devRef .tc main_v122) (ix2 (tok n t) q)
    = GR (arg m c) (arg m c).wx (arg m c).bx 0 n t q := by
  unfold W5
  after_reads_at
  unfold GR sg
  refine congrArg (Ideal.div 1) (congrArg (1 + ·) (congrArg Ideal.exp (congrArg Neg.neg ?_)))
  refine congrArg₂ (· + ·) (Finset.sum_congr rfl fun i _ => congrArg₂ (· * ·) ?_ ?_) ?_
  · exact congrFun (a9_4 m c) _
  · exact xb_raw m c (tok n t) n t _ rfl
  · exact congrFun (a10_4 m c) _
theorem v125_at (q : Fin 1024) : W5 m c (Proc.devRef .tc main_v125) (ix1 q) = -(arg m c).la (ix3 0 0 q) := by
  unfold W5
  after_reads_at
  rw [a11_4]
theorem v126_at (q : Fin 1024) : W6 m c (Proc.devRef .tc main_v126) (ix1 q) = SP (-(arg m c).la (ix3 0 0 q)) := by
  unfold W6
  after_reads_at
  rw [if_neg (fun h => h rfl), v125_at]
  rfl
theorem st_v124_6 : W6 m c (Proc.devRef .tc main_v124) = W5 m c (Proc.devRef .tc main_v124) :=
  after_of_writes_sub hostOps0_5 (W5 m c) hostOps0_5_writes (by decide +kernel)
theorem k_v124_6 : W6 m c (Proc.devRef .tc main_v124) = W5 m c (Proc.devRef .tc main_v124) := by
  rw [st_v124_6]
theorem st_v122_6 : W6 m c (Proc.devRef .tc main_v122) = W5 m c (Proc.devRef .tc main_v122) :=
  after_of_writes_sub hostOps0_5 (W5 m c) hostOps0_5_writes (by decide +kernel)
theorem k_v122_6 : W6 m c (Proc.devRef .tc main_v122) = W5 m c (Proc.devRef .tc main_v122) := by
  rw [st_v122_6]
theorem st_v86_6 : W6 m c (Proc.devRef .tc main_v86) = W5 m c (Proc.devRef .tc main_v86) :=
  after_of_writes_sub hostOps0_5 (W5 m c) hostOps0_5_writes (by decide +kernel)
theorem k_v86_6 : W6 m c (Proc.devRef .tc main_v86) = W5 m c (Proc.devRef .tc main_v86) := by
  rw [st_v86_6]
theorem st_arg7_5 : W5 m c (Proc.devRef .tc main_arg7) = W4 m c (Proc.devRef .tc main_arg7) :=
  after_of_writes_sub hostOps0_4 (W4 m c) hostOps0_4_writes (by decide +kernel)
theorem st_arg7_6 : W6 m c (Proc.devRef .tc main_arg7) = W5 m c (Proc.devRef .tc main_arg7) :=
  after_of_writes_sub hostOps0_5 (W5 m c) hostOps0_5_writes (by decide +kernel)
theorem k_arg7_6 : W6 m c (Proc.devRef .tc main_arg7) = W0 m c (Proc.devRef .tc main_arg7) := by
  rw [st_arg7_6, st_arg7_5, st_arg7_4, st_arg7_3, st_arg7_2, st_arg7_1]
theorem a7_6 : W6 m c (Proc.devRef .tc main_arg7) = (arg m c).wa := (k_arg7_6 m c).trans rfl
theorem st_arg8_5 : W5 m c (Proc.devRef .tc main_arg8) = W4 m c (Proc.devRef .tc main_arg8) :=
  after_of_writes_sub hostOps0_4 (W4 m c) hostOps0_4_writes (by decide +kernel)
theorem st_arg8_6 : W6 m c (Proc.devRef .tc main_arg8) = W5 m c (Proc.devRef .tc main_arg8) :=
  after_of_writes_sub hostOps0_5 (W5 m c) hostOps0_5_writes (by decide +kernel)
theorem k_arg8_6 : W6 m c (Proc.devRef .tc main_arg8) = W0 m c (Proc.devRef .tc main_arg8) := by
  rw [st_arg8_6, st_arg8_5, st_arg8_4, st_arg8_3, st_arg8_2, st_arg8_1]
theorem a8_6 : W6 m c (Proc.devRef .tc main_arg8) = (arg m c).ba := (k_arg8_6 m c).trans rfl
theorem st_arg9_5 : W5 m c (Proc.devRef .tc main_arg9) = W4 m c (Proc.devRef .tc main_arg9) :=
  after_of_writes_sub hostOps0_4 (W4 m c) hostOps0_4_writes (by decide +kernel)
theorem st_arg9_6 : W6 m c (Proc.devRef .tc main_arg9) = W5 m c (Proc.devRef .tc main_arg9) :=
  after_of_writes_sub hostOps0_5 (W5 m c) hostOps0_5_writes (by decide +kernel)
theorem k_arg9_6 : W6 m c (Proc.devRef .tc main_arg9) = W0 m c (Proc.devRef .tc main_arg9) := by
  rw [st_arg9_6, st_arg9_5, st_arg9_4, st_arg9_3, st_arg9_2, st_arg9_1]
theorem a9_6 : W6 m c (Proc.devRef .tc main_arg9) = (arg m c).wx := (k_arg9_6 m c).trans rfl
theorem st_arg10_5 : W5 m c (Proc.devRef .tc main_arg10) = W4 m c (Proc.devRef .tc main_arg10) :=
  after_of_writes_sub hostOps0_4 (W4 m c) hostOps0_4_writes (by decide +kernel)
theorem st_arg10_6 : W6 m c (Proc.devRef .tc main_arg10) = W5 m c (Proc.devRef .tc main_arg10) :=
  after_of_writes_sub hostOps0_5 (W5 m c) hostOps0_5_writes (by decide +kernel)
theorem k_arg10_6 : W6 m c (Proc.devRef .tc main_arg10) = W0 m c (Proc.devRef .tc main_arg10) := by
  rw [st_arg10_6, st_arg10_5, st_arg10_4, st_arg10_3, st_arg10_2, st_arg10_1]
theorem a10_6 : W6 m c (Proc.devRef .tc main_arg10) = (arg m c).bx := (k_arg10_6 m c).trans rfl
theorem st_arg11_5 : W5 m c (Proc.devRef .tc main_arg11) = W4 m c (Proc.devRef .tc main_arg11) :=
  after_of_writes_sub hostOps0_4 (W4 m c) hostOps0_4_writes (by decide +kernel)
theorem st_arg11_6 : W6 m c (Proc.devRef .tc main_arg11) = W5 m c (Proc.devRef .tc main_arg11) :=
  after_of_writes_sub hostOps0_5 (W5 m c) hostOps0_5_writes (by decide +kernel)
theorem k_arg11_6 : W6 m c (Proc.devRef .tc main_arg11) = W0 m c (Proc.devRef .tc main_arg11) := by
  rw [st_arg11_6, st_arg11_5, st_arg11_4, st_arg11_3, st_arg11_2, st_arg11_1]
theorem a11_6 : W6 m c (Proc.devRef .tc main_arg11) = (arg m c).la := (k_arg11_6 m c).trans rfl

theorem v130_at (n : Fin 128) (t : Fin 64) (q : Fin 1024) : W7 m c (Proc.devRef .tc main_v130) (ix2 (tok n t) q) = AR (arg m c) 0 n q t := by
  unfold W7
  after_reads_at
  rw [k_v124_6, v124_at, v126_at]
  rfl
theorem v137_at (n : Fin 128) (t : Fin 64) (q : Fin 1024) : W7 m c (Proc.devRef .tc main_v137) (ix2 (tok n t) q) = BR (arg m c) 0 n q t := by
  unfold W7
  after_reads_at
  rw [k_v124_6, k_v122_6, k_v86_6, v124_at, v126_at, v122_at, v86_at]
  rfl
theorem v175_at (n : Fin 128) (t : Fin 64) (q : Fin 1024) : W7 m c (Proc.devRef .tc main_v175) (ix2 (tok n t) q)
    = Ideal.ofBits .f32 0xC1000000#32 * GR (arg m c) (arg m c).wa (arg m c).ba 1 n t q := by
  unfold W7
  after_reads_at
  unfold GR sg
  refine congrArg (Ideal.ofBits .f32 0xC1000000#32 * ·) ?_
  refine congrArg (Ideal.div 1) (congrArg (1 + ·) (congrArg Ideal.exp (congrArg Neg.neg ?_)))
  refine congrArg₂ (· + ·) (Finset.sum_congr rfl fun i _ => congrArg₂ (· * ·) ?_ ?_) ?_
  · exact congrFun (a7_6 m c) _
  · exact (congrFun (k_v86_6 m c) _).trans (v86_at m c n t _)
  · exact congrFun (a8_6 m c) _
theorem v173_at (n : Fin 128) (t : Fin 64) (q : Fin 1024) : W7 m c (Proc.devRef .tc main_v173) (ix2 (tok n t) q)
    = GR (arg m c) (arg m c).wx (arg m c).bx 1 n t q := by
  unfold W7
  after_reads_at
  unfold GR sg
  refine congrArg (Ideal.div 1) (congrArg (1 + ·) (congrArg Ideal.exp (congrArg Neg.neg ?_)))
  refine congrArg₂ (· + ·) (Finset.sum_congr rfl fun i _ => congrArg₂ (· * ·) ?_ ?_) ?_
  · exact congrFun (a9_6 m c) _
  · exact (congrFun (k_v86_6 m c) _).trans (v86_at m c n t _)
  · exact congrFun (a10_6 m c) _
theorem v176_at (q : Fin 1024) : W7 m c (Proc.devRef .tc main_v176) (ix1 q) = -(arg m c).la (ix3 0 1 q) := by
  unfold W7
  after_reads_at
  rw [a11_6]
theorem v177_at (q : Fin 1024) : W8 m c (Proc.devRef .tc main_v177) (ix1 q) = SP (-(arg m c).la (ix3 0 1 q)) := by
  unfold W8
  after_reads_at
  rw [if_neg (fun h => h rfl), v176_at]
  rfl
theorem st_v130_8 : W8 m c (Proc.devRef .tc main_v130) = W7 m c (Proc.devRef .tc main_v130) :=
  after_of_writes_sub hostOps0_7 (W7 m c) hostOps0_7_writes (by decide +kernel)
theorem k_v130_8 : W8 m c (Proc.devRef .tc main_v130) = W7 m c (Proc.devRef .tc main_v130) := by
  rw [st_v130_8]
theorem st_v137_8 : W8 m c (Proc.devRef .tc main_v137) = W7 m c (Proc.devRef .tc main_v137) :=
  after_of_writes_sub hostOps0_7 (W7 m c) hostOps0_7_writes (by decide +kernel)
theorem k_v137_8 : W8 m c (Proc.devRef .tc main_v137) = W7 m c (Proc.devRef .tc main_v137) := by
  rw [st_v137_8]
theorem st_v175_8 : W8 m c (Proc.devRef .tc main_v175) = W7 m c (Proc.devRef .tc main_v175) :=
  after_of_writes_sub hostOps0_7 (W7 m c) hostOps0_7_writes (by decide +kernel)
theorem k_v175_8 : W8 m c (Proc.devRef .tc main_v175) = W7 m c (Proc.devRef .tc main_v175) := by
  rw [st_v175_8]
theorem st_v173_8 : W8 m c (Proc.devRef .tc main_v173) = W7 m c (Proc.devRef .tc main_v173) :=
  after_of_writes_sub hostOps0_7 (W7 m c) hostOps0_7_writes (by decide +kernel)
theorem k_v173_8 : W8 m c (Proc.devRef .tc main_v173) = W7 m c (Proc.devRef .tc main_v173) := by
  rw [st_v173_8]
theorem st_v86_7 : W7 m c (Proc.devRef .tc main_v86) = W6 m c (Proc.devRef .tc main_v86) :=
  after_of_writes_sub hostOps0_6 (W6 m c) hostOps0_6_writes (by decide +kernel)
theorem st_v86_8 : W8 m c (Proc.devRef .tc main_v86) = W7 m c (Proc.devRef .tc main_v86) :=
  after_of_writes_sub hostOps0_7 (W7 m c) hostOps0_7_writes (by decide +kernel)
theorem k_v86_8 : W8 m c (Proc.devRef .tc main_v86) = W6 m c (Proc.devRef .tc main_v86) := by
  rw [st_v86_8, st_v86_7]

theorem v192_at (t : Fin 64) (n : Fin 128) (q : Fin 1024) : W9 m c (Proc.devRef .tc main_v192) (ix3 t n q) = AR (arg m c) 0 n q t := by
  unfold W9
  after_reads_at
  rw [k_v130_8]
  exact v130_at m c n t q
theorem v194_at (t : Fin 64) (n : Fin 128) (q : Fin 1024) : W9 m c (Proc.devRef .tc main_v194) (ix3 t n q) = BR (arg m c) 0 n q t := by
  unfold W9
  after_reads_at
  rw [k_v137_8]
  exact v137_at m c n t q
theorem v196_at (t : Fin 64) (n : Fin 128) (q : Fin 1024) : W9 m c (Proc.devRef .tc main_v196) (ix3 t n q) = AR (arg m c) 1 n q t := by
  unfold W9
  after_reads_at
  rw [k_v175_8, v177_at]
  exact congrArg (fun z : EReal => Ideal.exp (z * _)) (v175_at m c n t q)
theorem v188_at (n : Fin 128) (t : Fin 64) (q : Fin 1024) : W9 m c (Proc.devRef .tc main_v188) (ix2 (tok n t) q) = BR (arg m c) 1 n q t := by
  unfold W9
  after_reads_at
  rw [k_v175_8, k_v173_8, k_v86_8, v175_at, v177_at, v173_at, k_v86_6, v86_at]
  rfl
theorem v197_at (t : Fin 64) (n : Fin 128) (q : Fin 1024) : W10 m c (Proc.devRef .tc main_v197) (ix3 t n q) = AR (arg m c) 1 n q t.rev := by
  unfold W10
  after_reads_at
  exact v196_at m c t.rev n q
theorem st_v188_10 : W10 m c (Proc.devRef .tc main_v188) = W9 m c (Proc.devRef .tc main_v188) :=
  after_of_writes_sub hostOps0_9 (W9 m c) hostOps0_9_writes (by decide +kernel)
theorem k_v188_10 : W10 m c (Proc.devRef .tc main_v188) = W9 m c (Proc.devRef .tc main_v188) := by
  rw [st_v188_10]

theorem v199_at (t : Fin 64) (n : Fin 128) (q : Fin 1024) : W11 m c (Proc.devRef .tc main_v199) (ix3 t n q) = BR (arg m c) 1 n q t := by
  unfold W11
  after_reads_at
  rw [k_v188_10]
  exact v188_at m c n t q
theorem v200_at (t : Fin 64) (n : Fin 128) (q : Fin 1024) : W12 m c (Proc.devRef .tc main_v200) (ix3 t n q) = BR (arg m c) 1 n q t.rev := by
  unfold W12
  after_reads_at
  exact v199_at m c t.rev n q
theorem st_v192_10 : W10 m c (Proc.devRef .tc main_v192) = W9 m c (Proc.devRef .tc main_v192) :=
  after_of_writes_sub hostOps0_9 (W9 m c) hostOps0_9_writes (by decide +kernel)
theorem st_v192_11 : W11 m c (Proc.devRef .tc main_v192) = W10 m c (Proc.devRef .tc main_v192) :=
  after_of_writes_sub hostOps0_10 (W10 m c) hostOps0_10_writes (by decide +kernel)
theorem st_v192_12 : W12 m c (Proc.devRef .tc main_v192) = W11 m c (Proc.devRef .tc main_v192) :=
  after_of_writes_sub hostOps0_11 (W11 m c) hostOps0_11_writes (by decide +kernel)
theorem k_v192_12 : W12 m c (Proc.devRef .tc main_v192) = W9 m c (Proc.devRef .tc main_v192) := by
  rw [st_v192_12, st_v192_11, st_v192_10]
theorem st_v194_10 : W10 m c (Proc.devRef .tc main_v194) = W9 m c (Proc.devRef .tc main_v194) :=
  after_of_writes_sub hostOps0_9 (W9 m c) hostOps0_9_writes (by decide +kernel)
theorem st_v194_11 : W11 m c (Proc.devRef .tc main_v194) = W10 m c (Proc.devRef .tc main_v194) :=
  after_of_writes_sub hostOps0_10 (W10 m c) hostOps0_10_writes (by decide +kernel)
theorem st_v194_12 : W12 m c (Proc.devRef .tc main_v194) = W11 m c (Proc.devRef .tc main_v194) :=
  after_of_writes_sub hostOps0_11 (W11 m c) hostOps0_11_writes (by decide +kernel)
theorem k_v194_12 : W12 m c (Proc.devRef .tc main_v194) = W9 m c (Proc.devRef .tc main_v194) := by
  rw [st_v194_12, st_v194_11, st_v194_10]
theorem st_v197_11 : W11 m c (Proc.devRef .tc main_v197) = W10 m c (Proc.devRef .tc main_v197) :=
  after_of_writes_sub hostOps0_10 (W10 m c) hostOps0_10_writes (by decide +kernel)
theorem st_v197_12 : W12 m c (Proc.devRef .tc main_v197) = W11 m c (Proc.devRef .tc main_v197) :=
  after_of_writes_sub hostOps0_11 (W11 m c) hostOps0_11_writes (by decide +kernel)
theorem k_v197_12 : W12 m c (Proc.devRef .tc main_v197) = W10 m c (Proc.devRef .tc main_v197) := by
  rw [st_v197_12, st_v197_11]
theorem st_v23_2 : W2 m c (Proc.devRef .tc main_v23) = W1 m c (Proc.devRef .tc main_v23) :=
  after_of_writes_sub hostOps0_1 (W1 m c) hostOps0_1_writes (by decide +kernel)
theorem st_v23_3 : W3 m c (Proc.devRef .tc main_v23) = W2 m c (Proc.devRef .tc main_v23) :=
  after_of_writes_sub hostOps0_2 (W2 m c) hostOps0_2_writes (by decide +kernel)
theorem st_v23_4 : W4 m c (Proc.devRef .tc main_v23) = W3 m c (Proc.devRef .tc main_v23) :=
  after_of_writes_sub hostOps0_3 (W3 m c) hostOps0_3_writes (by decide +kernel)
theorem st_v23_5 : W5 m c (Proc.devRef .tc main_v23) = W4 m c (Proc.devRef .tc main_v23) :=
  after_of_writes_sub hostOps0_4 (W4 m c) hostOps0_4_writes (by decide +kernel)
theorem st_v23_6 : W6 m c (Proc.devRef .tc main_v23) = W5 m c (Proc.devRef .tc main_v23) :=
  after_of_writes_sub hostOps0_5 (W5 m c) hostOps0_5_writes (by decide +kernel)
theorem st_v23_7 : W7 m c (Proc.devRef .tc main_v23) = W6 m c (Proc.devRef .tc main_v23) :=
  after_of_writes_sub hostOps0_6 (W6 m c) hostOps0_6_writes (by decide +kernel)
theorem st_v23_8 : W8 m c (Proc.devRef .tc main_v23) = W7 m c (Proc.devRef .tc main_v23) :=
  after_of_writes_sub hostOps0_7 (W7 m c) hostOps0_7_writes (by decide +kernel)
theorem st_v23_9 : W9 m c (Proc.devRef .tc main_v23) = W8 m c (Proc.devRef .tc main_v23) :=
  after_of_writes_sub hostOps0_8 (W8 m c) hostOps0_8_writes (by decide +kernel)
theorem st_v23_10 : W10 m c (Proc.devRef .tc main_v23) = W9 m c (Proc.devRef .tc main_v23) :=
  after_of_writes_sub hostOps0_9 (W9 m c) hostOps0_9_writes (by decide +kernel)
theorem st_v23_11 : W11 m c (Proc.devRef .tc main_v23) = W10 m c (Proc.devRef .tc main_v23) :=
  after_of_writes_sub hostOps0_10 (W10 m c) hostOps0_10_writes (by decide +kernel)
theorem st_v23_12 : W12 m c (Proc.devRef .tc main_v23) = W11 m c (Proc.devRef .tc main_v23) :=
  after_of_writes_sub hostOps0_11 (W11 m c) hostOps0_11_writes (by decide +kernel)
theorem k_v23_12 : W12 m c (Proc.devRef .tc main_v23) = W1 m c (Proc.devRef .tc main_v23) := by
  rw [st_v23_12, st_v23_11, st_v23_10, st_v23_9, st_v23_8, st_v23_7, st_v23_6, st_v23_5, st_v23_4, st_v23_3, st_v23_2]
theorem st_v53_4 : W4 m c (Proc.devRef .tc main_v53) = W3 m c (Proc.devRef .tc main_v53) :=
  after_of_writes_sub hostOps0_3 (W3 m c) hostOps0_3_writes (by decide +kernel)
theorem st_v53_5 : W5 m c (Proc.devRef .tc main_v53) = W4 m c (Proc.devRef .tc main_v53) :=
  after_of_writes_sub hostOps0_4 (W4 m c) hostOps0_4_writes (by decide +kernel)
theorem st_v53_6 : W6 m c (Proc.devRef .tc main_v53) = W5 m c (Proc.devRef .tc main_v53) :=
  after_of_writes_sub hostOps0_5 (W5 m c) hostOps0_5_writes (by decide +kernel)
theorem st_v53_7 : W7 m c (Proc.devRef .tc main_v53) = W6 m c (Proc.devRef .tc main_v53) :=
  after_of_writes_sub hostOps0_6 (W6 m c) hostOps0_6_writes (by decide +kernel)
theorem st_v53_8 : W8 m c (Proc.devRef .tc main_v53) = W7 m c (Proc.devRef .tc main_v53) :=
  after_of_writes_sub hostOps0_7 (W7 m c) hostOps0_7_writes (by decide +kernel)
theorem st_v53_9 : W9 m c (Proc.devRef .tc main_v53) = W8 m c (Proc.devRef .tc main_v53) :=
  after_of_writes_sub hostOps0_8 (W8 m c) hostOps0_8_writes (by decide +kernel)
theorem st_v53_10 : W10 m c (Proc.devRef .tc main_v53) = W9 m c (Proc.devRef .tc main_v53) :=
  after_of_writes_sub hostOps0_9 (W9 m c) hostOps0_9_writes (by decide +kernel)
theorem st_v53_11 : W11 m c (Proc.devRef .tc main_v53) = W10 m c (Proc.devRef .tc main_v53) :=
  after_of_writes_sub hostOps0_10 (W10 m c) hostOps0_10_writes (by decide +kernel)
theorem st_v53_12 : W12 m c (Proc.devRef .tc main_v53) = W11 m c (Proc.devRef .tc main_v53) :=
  after_of_writes_sub hostOps0_11 (W11 m c) hostOps0_11_writes (by decide +kernel)
theorem k_v53_12 : W12 m c (Proc.devRef .tc main_v53) = W3 m c (Proc.devRef .tc main_v53) := by
  rw [st_v53_12, st_v53_11, st_v53_10, st_v53_9, st_v53_8, st_v53_7, st_v53_6, st_v53_5, st_v53_4]
theorem st_v26_2 : W2 m c (Proc.devRef .tc main_v26) = W1 m c (Proc.devRef .tc main_v26) :=
  after_of_writes_sub hostOps0_1 (W1 m c) hostOps0_1_writes (by decide +kernel)
theorem st_v26_3 : W3 m c (Proc.devRef .tc main_v26) = W2 m c (Proc.devRef .tc main_v26) :=
  after_of_writes_sub hostOps0_2 (W2 m c) hostOps0_2_writes (by decide +kernel)
theorem st_v26_4 : W4 m c (Proc.devRef .tc main_v26) = W3 m c (Proc.devRef .tc main_v26) :=
  after_of_writes_sub hostOps0_3 (W3 m c) hostOps0_3_writes (by decide +kernel)
theorem st_v26_5 : W5 m c (Proc.devRef .tc main_v26) = W4 m c (Proc.devRef .tc main_v26) :=
  after_of_writes_sub hostOps0_4 (W4 m c) hostOps0_4_writes (by decide +kernel)
theorem st_v26_6 : W6 m c (Proc.devRef .tc main_v26) = W5 m c (Proc.devRef .tc main_v26) :=
  after_of_writes_sub hostOps0_5 (W5 m c) hostOps0_5_writes (by decide +kernel)
theorem st_v26_7 : W7 m c (Proc.devRef .tc main_v26) = W6 m c (Proc.devRef .tc main_v26) :=
  after_of_writes_sub hostOps0_6 (W6 m c) hostOps0_6_writes (by decide +kernel)
theorem st_v26_8 : W8 m c (Proc.devRef .tc main_v26) = W7 m c (Proc.devRef .tc main_v26) :=
  after_of_writes_sub hostOps0_7 (W7 m c) hostOps0_7_writes (by decide +kernel)
theorem st_v26_9 : W9 m c (Proc.devRef .tc main_v26) = W8 m c (Proc.devRef .tc main_v26) :=
  after_of_writes_sub hostOps0_8 (W8 m c) hostOps0_8_writes (by decide +kernel)
theorem st_v26_10 : W10 m c (Proc.devRef .tc main_v26) = W9 m c (Proc.devRef .tc main_v26) :=
  after_of_writes_sub hostOps0_9 (W9 m c) hostOps0_9_writes (by decide +kernel)
theorem st_v26_11 : W11 m c (Proc.devRef .tc main_v26) = W10 m c (Proc.devRef .tc main_v26) :=
  after_of_writes_sub hostOps0_10 (W10 m c) hostOps0_10_writes (by decide +kernel)
theorem st_v26_12 : W12 m c (Proc.devRef .tc main_v26) = W11 m c (Proc.devRef .tc main_v26) :=
  after_of_writes_sub hostOps0_11 (W11 m c) hostOps0_11_writes (by decide +kernel)
theorem k_v26_12 : W12 m c (Proc.devRef .tc main_v26) = W1 m c (Proc.devRef .tc main_v26) := by
  rw [st_v26_12, st_v26_11, st_v26_10, st_v26_9, st_v26_8, st_v26_7, st_v26_6, st_v26_5, st_v26_4, st_v26_3, st_v26_2]
theorem st_v28_2 : W2 m c (Proc.devRef .tc main_v28) = W1 m c (Proc.devRef .tc main_v28) :=
  after_of_writes_sub hostOps0_1 (W1 m c) hostOps0_1_writes (by decide +kernel)
theorem st_v28_3 : W3 m c (Proc.devRef .tc main_v28) = W2 m c (Proc.devRef .tc main_v28) :=
  after_of_writes_sub hostOps0_2 (W2 m c) hostOps0_2_writes (by decide +kernel)
theorem st_v28_4 : W4 m c (Proc.devRef .tc main_v28) = W3 m c (Proc.devRef .tc main_v28) :=
  after_of_writes_sub hostOps0_3 (W3 m c) hostOps0_3_writes (by decide +kernel)
theorem st_v28_5 : W5 m c (Proc.devRef .tc main_v28) = W4 m c (Proc.devRef .tc main_v28) :=
  after_of_writes_sub hostOps0_4 (W4 m c) hostOps0_4_writes (by decide +kernel)
theorem st_v28_6 : W6 m c (Proc.devRef .tc main_v28) = W5 m c (Proc.devRef .tc main_v28) :=
  after_of_writes_sub hostOps0_5 (W5 m c) hostOps0_5_writes (by decide +kernel)
theorem st_v28_7 : W7 m c (Proc.devRef .tc main_v28) = W6 m c (Proc.devRef .tc main_v28) :=
  after_of_writes_sub hostOps0_6 (W6 m c) hostOps0_6_writes (by decide +kernel)
theorem st_v28_8 : W8 m c (Proc.devRef .tc main_v28) = W7 m c (Proc.devRef .tc main_v28) :=
  after_of_writes_sub hostOps0_7 (W7 m c) hostOps0_7_writes (by decide +kernel)
theorem st_v28_9 : W9 m c (Proc.devRef .tc main_v28) = W8 m c (Proc.devRef .tc main_v28) :=
  after_of_writes_sub hostOps0_8 (W8 m c) hostOps0_8_writes (by decide +kernel)
theorem st_v28_10 : W10 m c (Proc.devRef .tc main_v28) = W9 m c (Proc.devRef .tc main_v28) :=
  after_of_writes_sub hostOps0_9 (W9 m c) hostOps0_9_writes (by decide +kernel)
theorem st_v28_11 : W11 m c (Proc.devRef .tc main_v28) = W10 m c (Proc.devRef .tc main_v28) :=
  after_of_writes_sub hostOps0_10 (W10 m c) hostOps0_10_writes (by decide +kernel)
theorem st_v28_12 : W12 m c (Proc.devRef .tc main_v28) = W11 m c (Proc.devRef .tc main_v28) :=
  after_of_writes_sub hostOps0_11 (W11 m c) hostOps0_11_writes (by decide +kernel)
theorem k_v28_12 : W12 m c (Proc.devRef .tc main_v28) = W1 m c (Proc.devRef .tc main_v28) := by
  rw [st_v28_12, st_v28_11, st_v28_10, st_v28_9, st_v28_8, st_v28_7, st_v28_6, st_v28_5, st_v28_4, st_v28_3, st_v28_2]

theorem e0_at (t : Fin 64) (n : Fin 128) (q : Fin 1024) : W13 m c (Proc.devRef .tc main_v215_0) (ix3 t n q) = AR (arg m c) 0 n q t := by
  unfold W13
  after_reads_at
  rw [k_v192_12]
  exact v192_at m c t n q

theorem e1_at (t : Fin 64) (n : Fin 128) (q : Fin 1024) : W13 m c (Proc.devRef .tc main_v215_1) (ix3 t n q) = BR (arg m c) 0 n q t := by
  unfold W13
  after_reads_at
  rw [k_v194_12]
  exact v194_at m c t n q

theorem e2_at (t : Fin 64) (n : Fin 128) (q : Fin 1024) : W13 m c (Proc.devRef .tc main_v215_2) (ix3 t n q) = AR (arg m c) 1 n q t.rev := by
  unfold W13
  after_reads_at
  rw [k_v197_12]
  exact v197_at m c t n q

theorem e3_at (t : Fin 64) (n : Fin 128) (q : Fin 1024) : W13 m c (Proc.devRef .tc main_v215_3) (ix3 t n q) = BR (arg m c) 1 n q t.rev := by
  unfold W13
  after_reads_at
  exact v200_at m c t n q

theorem e4_at (t : Fin 64) (n : Fin 128) (q : Fin 1024) : W13 m c (Proc.devRef .tc main_v215_4) (ix3 t n q) = PR (arg m c) (tok n t) (col 0 (by omega) q) := by
  unfold W13
  after_reads_at
  rw [k_v23_12]
  exact v23_at m c (tok n t) q

theorem e5_at (t : Fin 64) (n : Fin 128) (q : Fin 1024) : W13 m c (Proc.devRef .tc main_v215_5) (ix3 t n q) = CR (arg m c) n t q := by
  unfold W13
  after_reads_at
  rw [k_v53_12]
  exact v53_at m c n t q

theorem e6_at (t : Fin 64) (n : Fin 128) (q : Fin 1024) : W13 m c (Proc.devRef .tc main_v215_6) (ix3 t n q) = PR (arg m c) (tok n t) (col 3072 (by omega) q) := by
  unfold W13
  after_reads_at
  rw [k_v26_12]
  exact v26_at m c (tok n t) q

theorem e7_at (t : Fin 64) (n : Fin 128) (q : Fin 1024) : W13 m c (Proc.devRef .tc main_v215_7) (ix3 t n q) = PR (arg m c) (tok n t) (col 5120 (by omega) q) := by
  unfold W13
  after_reads_at
  rw [k_v28_12]
  exact v28_at m c (tok n t) q
theorem st_v189_10 : W10 m c (Proc.devRef .tc main_v189) = W9 m c (Proc.devRef .tc main_v189) :=
  after_of_writes_sub hostOps0_9 (W9 m c) hostOps0_9_writes (by decide +kernel)
theorem st_v189_11 : W11 m c (Proc.devRef .tc main_v189) = W10 m c (Proc.devRef .tc main_v189) :=
  after_of_writes_sub hostOps0_10 (W10 m c) hostOps0_10_writes (by decide +kernel)
theorem st_v189_12 : W12 m c (Proc.devRef .tc main_v189) = W11 m c (Proc.devRef .tc main_v189) :=
  after_of_writes_sub hostOps0_11 (W11 m c) hostOps0_11_writes (by decide +kernel)
theorem k_v189_12 : W12 m c (Proc.devRef .tc main_v189) = W9 m c (Proc.devRef .tc main_v189) := by
  rw [st_v189_12, st_v189_11, st_v189_10]
theorem st_v190_10 : W10 m c (Proc.devRef .tc main_v190) = W9 m c (Proc.devRef .tc main_v190) :=
  after_of_writes_sub hostOps0_9 (W9 m c) hostOps0_9_writes (by decide +kernel)
theorem st_v190_11 : W11 m c (Proc.devRef .tc main_v190) = W10 m c (Proc.devRef .tc main_v190) :=
  after_of_writes_sub hostOps0_10 (W10 m c) hostOps0_10_writes (by decide +kernel)
theorem st_v190_12 : W12 m c (Proc.devRef .tc main_v190) = W11 m c (Proc.devRef .tc main_v190) :=
  after_of_writes_sub hostOps0_11 (W11 m c) hostOps0_11_writes (by decide +kernel)
theorem k_v190_12 : W12 m c (Proc.devRef .tc main_v190) = W9 m c (Proc.devRef .tc main_v190) := by
  rw [st_v190_12, st_v190_11, st_v190_10]

theorem v189_at (n : Fin 128) (q : Fin 1024) : W9 m c (Proc.devRef .tc main_v189) (ix2 n q) = (0 : EReal) := by
  unfold W9
  after_reads_at
theorem v190_at (n : Fin 128) (q : Fin 1024) : W9 m c (Proc.devRef .tc main_v190) (ix2 n q) = (1 : EReal) := by
  unfold W9
  after_reads_at

theorem e9_at (n : Fin 128) (q : Fin 1024) : W13 m c (Proc.devRef .tc main_v215_9) (ix2 n q) = (0 : EReal) := by
  unfold W13
  after_reads_at
  rw [k_v189_12]
  exact v189_at m c n q

theorem e10_at (n : Fin 128) (q : Fin 1024) : W13 m c (Proc.devRef .tc main_v215_10) (ix2 n q) = (1 : EReal) := by
  unfold W13
  after_reads_at
  rw [k_v190_12]
  exact v190_at m c n q

theorem e11_at (n : Fin 128) (q : Fin 1024) : W13 m c (Proc.devRef .tc main_v215_11) (ix2 n q) = (0 : EReal) := by
  unfold W13
  after_reads_at
  rw [k_v189_12]
  exact v189_at m c n q

theorem e12_at (n : Fin 128) (q : Fin 1024) : W13 m c (Proc.devRef .tc main_v215_12) (ix2 n q) = (1 : EReal) := by
  unfold W13
  after_reads_at
  rw [k_v190_12]
  exact v190_at m c n q

end Cert.ReferenceIdeal.Val

end
-- ==== Proof.RefLoop.lean ====
module

public import proofs.«01_k».proof.Proof.RefPre
public import Idealize.ShloMosaic.Lib.WordCmp

@[expose] public section

set_option maxRecDepth 16384
set_option maxHeartbeats 400000

noncomputable section

/-! The reference's loop, entry by entry. -/
namespace Cert.ReferenceIdeal.Val

open Idealize.ShloMosaic Idealize.ShloMosaic.TcCoe Idealize.SL.Sem Idealize.ShloMosaic.StableHlo Cert.ReferenceIdeal Cert.ReferenceIdeal.Gen Cert.ReferenceIdeal.Value Cert.Spec

/-- The loop's counter holds `k`. -/
abbrev Ctr (V : Valuation τ sig (Elt Ideal)) (k : ℕ) : Prop := V (Proc.devRef .tc main_v215_8) = fun _ => Scf.iv 0#32 1#32 k

theorem iv_toInt (k : ℕ) (hk : k < 64) : (Scf.iv 0#32 1#32 k).toInt = (k : ℤ) := by
  interval_cases k <;> decide +kernel

/-- The starts of the row the counter names. -/
abbrev starts (V : Valuation τ sig (Elt Ideal)) : Fin 3 → ℤ :=
  fun k => (((![V (Proc.devRef .tc main_v215_8), constantI S_ 32 0#32, constantI S_ 32 0#32] : Fin 3 → (⟨S_, .i32⟩ : BufTy).Contents (Elt Ideal))) k (Shape.Idx.first h_S_)).toInt

theorem starts_eq (V : Valuation τ sig (Elt Ideal)) (k : ℕ) (hk : k < 64) (hc : Ctr V k) : ∀ a, starts V a = (((![k, 0, 0] : Fin 3 → ℕ) a : ℕ) : ℤ)
  | 0 => by show ((V (Proc.devRef .tc main_v215_8)) (Shape.Idx.first h_S_)).toInt = _; rw [hc]; exact iv_toInt k hk
  | 1 => rfl
  | 2 => rfl

theorem fits (k : ℕ) (hk : k < 64) : Shape.Slices S64x128x1024 (![k, 0, 0] : Fin 3 → ℕ) S1x128x1024 :=
  ⟨rfl, fun a => by
    match a with
    | 0 => show k + 1 ≤ 64; omega
    | 1 => show 0 + 128 ≤ 128; omega
    | 2 => show 0 + 1024 ≤ 1024; omega⟩

theorem row_at (V : Valuation τ sig (Elt Ideal)) (X : FVec Ideal S64x128x1024 .f32) (k : ℕ) (hk : k < 64) (hc : Ctr V k) (n : Fin 128) (q : Fin 1024) :
    shapeCast S128x1024 (Host.dynamicSlice S1x128x1024 X (starts V) sliceFits_S64x128x1024_S1x128x1024) shapeCasts_S1x128x1024_S128x1024 (ix2 n q)
      = X (ix3 ⟨k, hk⟩ n q) := by
  rw [WordCmp.dynamicSlice_eq_extract S1x128x1024 X (starts V) _ ![k, 0, 0] (fits k hk) (starts_eq V k hk hc)]
  pointwise

theorem upd_at (V : Valuation τ sig (Elt Ideal)) (X : FVec Ideal S64x128x1024 .f32) (Y : FVec Ideal S128x1024 .f32) (k : ℕ) (hk : k < 64) (hc : Ctr V k)
    (t : Fin 64) (n : Fin 128) (q : Fin 1024) :
    Host.dynamicUpdateSlice X (broadcastInDim S1x128x1024 ![1, 2] bcast_S128x1024_S1x128x1024_1_2 Y) (starts V) updateFits_S64x128x1024_S1x128x1024 (ix3 t n q)
      = if t.val = k then Y (ix2 n q) else X (ix3 t n q) := by
  rw [WordCmp.dynamicUpdateSlice_eq_update X _ (starts V) _ ![k, 0, 0] (fits k hk) (starts_eq V k hk hc)]
  rw [updateSlice_apply]
  by_cases h : t.val = k
  · rw [if_pos h, dif_pos]
    · pointwise
    · intro a
      match a with
      | 0 => exact ⟨le_of_eq h.symm, by show t.val < k + 1; omega⟩
      | 1 => exact ⟨Nat.zero_le _, by show n.val < 0 + 128; omega⟩
      | 2 => exact ⟨Nat.zero_le _, by show q.val < 0 + 1024; omega⟩
  · rw [if_neg h, dif_neg]
    intro hin
    have h0 := hin 0
    exact h (by
      have h1 : k ≤ t.val := h0.1
      have h2 : t.val < k + 1 := h0.2
      omega)

/-- Carried array 0. -/
def R0 (V : Valuation τ sig (Elt Ideal)) : (⟨3, ![64, 128, 1024]⟩ : Shape).Idx → EReal := V (Proc.devRef .tc main_v215_0)
/-- Carried array 1. -/
def R1 (V : Valuation τ sig (Elt Ideal)) : (⟨3, ![64, 128, 1024]⟩ : Shape).Idx → EReal := V (Proc.devRef .tc main_v215_1)
/-- Carried array 2. -/
def R2 (V : Valuation τ sig (Elt Ideal)) : (⟨3, ![64, 128, 1024]⟩ : Shape).Idx → EReal := V (Proc.devRef .tc main_v215_2)
/-- Carried array 3. -/
def R3 (V : Valuation τ sig (Elt Ideal)) : (⟨3, ![64, 128, 1024]⟩ : Shape).Idx → EReal := V (Proc.devRef .tc main_v215_3)
/-- Carried array 4. -/
def R4 (V : Valuation τ sig (Elt Ideal)) : (⟨3, ![64, 128, 1024]⟩ : Shape).Idx → EReal := V (Proc.devRef .tc main_v215_4)
/-- Carried array 5. -/
def R5 (V : Valuation τ sig (Elt Ideal)) : (⟨3, ![64, 128, 1024]⟩ : Shape).Idx → EReal := V (Proc.devRef .tc main_v215_5)
/-- Carried array 6. -/
def R6 (V : Valuation τ sig (Elt Ideal)) : (⟨3, ![64, 128, 1024]⟩ : Shape).Idx → EReal := V (Proc.devRef .tc main_v215_6)
/-- Carried array 7. -/
def R7 (V : Valuation τ sig (Elt Ideal)) : (⟨3, ![64, 128, 1024]⟩ : Shape).Idx → EReal := V (Proc.devRef .tc main_v215_7)
/-- Carried array 13. -/
def R13 (V : Valuation τ sig (Elt Ideal)) : (⟨3, ![64, 128, 1024]⟩ : Shape).Idx → EReal := V (Proc.devRef .tc main_v215_13)
/-- Carried array 14. -/
def R14 (V : Valuation τ sig (Elt Ideal)) : (⟨3, ![64, 128, 1024]⟩ : Shape).Idx → EReal := V (Proc.devRef .tc main_v215_14)
/-- Carried array 15. -/
def R15 (V : Valuation τ sig (Elt Ideal)) : (⟨3, ![64, 128, 1024]⟩ : Shape).Idx → EReal := V (Proc.devRef .tc main_v215_15)
/-- Carried array 16. -/
def R16 (V : Valuation τ sig (Elt Ideal)) : (⟨3, ![64, 128, 1024]⟩ : Shape).Idx → EReal := V (Proc.devRef .tc main_v215_16)
/-- Carried array 17. -/
def R17 (V : Valuation τ sig (Elt Ideal)) : (⟨3, ![64, 128, 1024]⟩ : Shape).Idx → EReal := V (Proc.devRef .tc main_v215_17)
/-- Carried array 18. -/
def R18 (V : Valuation τ sig (Elt Ideal)) : (⟨3, ![64, 128, 1024]⟩ : Shape).Idx → EReal := V (Proc.devRef .tc main_v215_18)
/-- Carried array 9. -/
def R9 (V : Valuation τ sig (Elt Ideal)) : (⟨2, ![128, 1024]⟩ : Shape).Idx → EReal := V (Proc.devRef .tc main_v215_9)
/-- Carried array 10. -/
def R10 (V : Valuation τ sig (Elt Ideal)) : (⟨2, ![128, 1024]⟩ : Shape).Idx → EReal := V (Proc.devRef .tc main_v215_10)
/-- Carried array 11. -/
def R11 (V : Valuation τ sig (Elt Ideal)) : (⟨2, ![128, 1024]⟩ : Shape).Idx → EReal := V (Proc.devRef .tc main_v215_11)
/-- Carried array 12. -/
def R12 (V : Valuation τ sig (Elt Ideal)) : (⟨2, ![128, 1024]⟩ : Shape).Idx → EReal := V (Proc.devRef .tc main_v215_12)
theorem kp0 (V : Valuation τ sig (Elt Ideal)) : R0 (STEP V) = R0 V := STEP_main_v215_0 V
theorem kp1 (V : Valuation τ sig (Elt Ideal)) : R1 (STEP V) = R1 V := STEP_main_v215_1 V
theorem kp2 (V : Valuation τ sig (Elt Ideal)) : R2 (STEP V) = R2 V := STEP_main_v215_2 V
theorem kp3 (V : Valuation τ sig (Elt Ideal)) : R3 (STEP V) = R3 V := STEP_main_v215_3 V
theorem kp4 (V : Valuation τ sig (Elt Ideal)) : R4 (STEP V) = R4 V := STEP_main_v215_4 V
theorem kp5 (V : Valuation τ sig (Elt Ideal)) : R5 (STEP V) = R5 V := STEP_main_v215_5 V
theorem kp6 (V : Valuation τ sig (Elt Ideal)) : R6 (STEP V) = R6 V := STEP_main_v215_6 V
theorem kp7 (V : Valuation τ sig (Elt Ideal)) : R7 (STEP V) = R7 V := STEP_main_v215_7 V

theorem silu_at (G : FVec Ideal S128x1024 .f32) (i : S128x1024.Idx) :
    mulf G (Host.divf (broadcastInDim S128x1024 ![] bcast_S_S128x1024 (constant S_ .f32 0x3F800000#32))
      (addf (broadcastInDim S128x1024 ![] bcast_S_S128x1024 (constant S_ .f32 0x3F800000#32)) (Host.exp (Host.negf G)))) i
      = (fun b : EReal => b * sg b) (G i) := by
  unfold sg
  pointwise
theorem prod_at (P Q G : FVec Ideal S128x1024 .f32) (i : S128x1024.Idx) :
    mulf (mulf P Q) (mulf G (Host.divf (broadcastInDim S128x1024 ![] bcast_S_S128x1024 (constant S_ .f32 0x3F800000#32))
      (addf (broadcastInDim S128x1024 ![] bcast_S_S128x1024 (constant S_ .f32 0x3F800000#32)) (Host.exp (Host.negf G))))) i
      = (fun a b : EReal => a * (b * sg b)) ((fun a b : EReal => a * b) (P i) (Q i)) (G i) :=
  congrArg (fun z : EReal => (fun a b : EReal => a * b) (P i) (Q i) * z) (silu_at G i)

section Step
variable (V : Valuation τ sig (Elt Ideal)) (k : ℕ) (hk : k < 64) (hc : Ctr V k) (t : Fin 64) (n : Fin 128) (q : Fin 1024)
include hc

theorem ctr_succ : Ctr (STEP V) (k + 1) := by
  unfold Ctr
  rw [STEP_main_v215_8]
  unfold step_main_v215_8
  rw [hc, Scf.iv_succ]
  rfl
theorem r251 : res_main_while0b_v251 V (ix2 n q) = R0 V (ix3 ⟨k, hk⟩ n q) := row_at V _ k hk hc n q
theorem r253 : res_main_while0b_v253 V (ix2 n q) = R2 V (ix3 ⟨k, hk⟩ n q) := row_at V _ k hk hc n q
theorem r257 : res_main_while0b_v257 V (ix2 n q) = R6 V (ix3 ⟨k, hk⟩ n q) := row_at V _ k hk hc n q
theorem r258 : res_main_while0b_v258 V (ix2 n q) = R7 V (ix3 ⟨k, hk⟩ n q) := row_at V _ k hk hc n q
theorem r260 : res_main_while0b_v260 V (ix2 n q) = R0 V (ix3 ⟨k, hk⟩ n q) * R9 V (ix2 n q) + R1 V (ix3 ⟨k, hk⟩ n q) :=
  congrArg₂ (fun a b : EReal => a * R9 V (ix2 n q) + b) (r251 V k hk hc n q) (row_at V _ k hk hc n q)
theorem r261 : res_main_while0b_v261 V (ix2 n q) = R0 V (ix3 ⟨k, hk⟩ n q) * R10 V (ix2 n q) :=
  congrArg (fun a : EReal => a * R10 V (ix2 n q)) (r251 V k hk hc n q)
theorem r263 : res_main_while0b_v263 V (ix2 n q) = R2 V (ix3 ⟨k, hk⟩ n q) * R11 V (ix2 n q) + R3 V (ix3 ⟨k, hk⟩ n q) :=
  congrArg₂ (fun a b : EReal => a * R11 V (ix2 n q) + b) (r253 V k hk hc n q) (row_at V _ k hk hc n q)
theorem r264 : res_main_while0b_v264 V (ix2 n q) = R2 V (ix3 ⟨k, hk⟩ n q) * R12 V (ix2 n q) :=
  congrArg (fun a : EReal => a * R12 V (ix2 n q)) (r253 V k hk hc n q)
theorem st9 : R9 (STEP V) (ix2 n q) = R0 V (ix3 ⟨k, hk⟩ n q) * R9 V (ix2 n q) + R1 V (ix3 ⟨k, hk⟩ n q) :=
  (congrFun (STEP_main_v215_9 V) _).trans (r260 V k hk hc n q)
theorem st13 : R13 (STEP V) (ix3 t n q) = if t.val = k then R0 V (ix3 ⟨k, hk⟩ n q) * R9 V (ix2 n q) + R1 V (ix3 ⟨k, hk⟩ n q) else R13 V (ix3 t n q) :=
  (congrFun (STEP_main_v215_13 V) _).trans ((upd_at V _ _ k hk hc t n q).trans (by rw [r260 V k hk hc n q]; rfl))
theorem st10 : R10 (STEP V) (ix2 n q) = R0 V (ix3 ⟨k, hk⟩ n q) * R10 V (ix2 n q) :=
  (congrFun (STEP_main_v215_10 V) _).trans (r261 V k hk hc n q)
theorem st14 : R14 (STEP V) (ix3 t n q) = if t.val = k then R0 V (ix3 ⟨k, hk⟩ n q) * R10 V (ix2 n q) else R14 V (ix3 t n q) :=
  (congrFun (STEP_main_v215_14 V) _).trans ((upd_at V _ _ k hk hc t n q).trans (by rw [r261 V k hk hc n q]; rfl))
theorem st11 : R11 (STEP V) (ix2 n q) = R2 V (ix3 ⟨k, hk⟩ n q) * R11 V (ix2 n q) + R3 V (ix3 ⟨k, hk⟩ n q) :=
  (congrFun (STEP_main_v215_11 V) _).trans (r263 V k hk hc n q)
theorem st15 : R15 (STEP V) (ix3 t n q) = if t.val = k then R2 V (ix3 ⟨k, hk⟩ n q) * R11 V (ix2 n q) + R3 V (ix3 ⟨k, hk⟩ n q) else R15 V (ix3 t n q) :=
  (congrFun (STEP_main_v215_15 V) _).trans ((upd_at V _ _ k hk hc t n q).trans (by rw [r263 V k hk hc n q]; rfl))
theorem st12 : R12 (STEP V) (ix2 n q) = R2 V (ix3 ⟨k, hk⟩ n q) * R12 V (ix2 n q) :=
  (congrFun (STEP_main_v215_12 V) _).trans (r264 V k hk hc n q)
theorem st16 : R16 (STEP V) (ix3 t n q) = if t.val = k then R2 V (ix3 ⟨k, hk⟩ n q) * R12 V (ix2 n q) else R16 V (ix3 t n q) :=
  (congrFun (STEP_main_v215_16 V) _).trans ((upd_at V _ _ k hk hc t n q).trans (by rw [r264 V k hk hc n q]; rfl))
theorem st17 : R17 (STEP V) (ix3 t n q) = if t.val = k then R4 V (ix3 ⟨k, hk⟩ n q) * R5 V (ix3 ⟨k, hk⟩ n q) * (R6 V (ix3 ⟨k, hk⟩ n q) * sg (R6 V (ix3 ⟨k, hk⟩ n q)))
    else R17 V (ix3 t n q) := by
  refine (congrFun (STEP_main_v215_17 V) _).trans ((upd_at V _ _ k hk hc t n q).trans ?_)
  by_cases h : t.val = k
  · rw [if_pos h, if_pos h]
    have h6 := r257 V k hk hc n q
    have h4 := row_at V (R4 V) k hk hc n q
    have h5 := row_at V (R5 V) k hk hc n q
    exact (prod_at _ _ _ _).trans (congrArg₂ (fun a b : EReal => a * (b * sg b)) (congrArg₂ (fun a b : EReal => a * b) h4 h5) h6)
  · rw [if_neg h, if_neg h]; rfl
theorem st18 : R18 (STEP V) (ix3 t n q) = if t.val = k then R7 V (ix3 ⟨k, hk⟩ n q) * sg (R7 V (ix3 ⟨k, hk⟩ n q)) else R18 V (ix3 t n q) := by
  refine (congrFun (STEP_main_v215_18 V) _).trans ((upd_at V _ _ k hk hc t n q).trans ?_)
  by_cases h : t.val = k
  · rw [if_pos h, if_pos h]
    have h7 := r258 V k hk hc n q
    exact (silu_at _ _).trans (congrArg (fun b : EReal => b * sg b) h7)
  · rw [if_neg h, if_neg h]; rfl
end Step

end Cert.ReferenceIdeal.Val

end
-- ==== Proof.RefEnd.lean ====
module

public import proofs.«01_k».proof.Proof.RefLoop
public import proofs.«01_k».proof.Proof.Reads4

@[expose] public section

set_option maxRecDepth 16384
set_option maxHeartbeats 400000

noncomputable section

/-! The reference's results, entry by entry. -/
namespace Cert.ReferenceIdeal.Val

open Idealize.ShloMosaic Idealize.ShloMosaic.TcCoe Idealize.SL.Sem Idealize.ShloMosaic.StableHlo Cert.ReferenceIdeal Cert.ReferenceIdeal.Gen Cert.ReferenceIdeal.Value Cert.Spec
open Cert.KernelIdeal.Model (sH sP)

/-- The recurrence's state before trip `k`. -/
def hP (a b : Fin 64 → EReal) : ℕ → EReal
  | 0 => 0
  | k + 1 => if h : k < 64 then sH a b k h else 0
/-- The product of the coefficients before trip `k`. -/
def pP (a : Fin 64 → EReal) : ℕ → EReal
  | 0 => 1
  | k + 1 => if h : k < 64 then sP a k h else 0

theorem hP_succ (a b : Fin 64 → EReal) (k : ℕ) (hk : k < 64) : a ⟨k, hk⟩ * hP a b k + b ⟨k, hk⟩ = sH a b k hk := by
  cases k with
  | zero => simp only [hP, sH, mul_zero, zero_add]
  | succ k => simp only [hP, sH, dif_pos (Nat.lt_of_succ_lt hk)]
theorem pP_succ (a : Fin 64 → EReal) (k : ℕ) (hk : k < 64) : a ⟨k, hk⟩ * pP a k = sP a k hk := by
  cases k with
  | zero => simp only [pP, sP, mul_one]
  | succ k => simp only [pP, sP, dif_pos (Nat.lt_of_succ_lt hk)]

section Inv
variable (V0 : Valuation τ sig (Elt Ideal)) (n : Fin 128) (q : Fin 1024)
/-- Forward coefficients of a line. -/
abbrev af (t : Fin 64) : EReal := R0 V0 (ix3 t n q)
/-- Forward inputs of a line. -/
abbrev bf (t : Fin 64) : EReal := R1 V0 (ix3 t n q)
/-- Backward coefficients of a line. -/
abbrev ar (t : Fin 64) : EReal := R2 V0 (ix3 t n q)
/-- Backward inputs of a line. -/
abbrev br (t : Fin 64) : EReal := R3 V0 (ix3 t n q)
end Inv

/-- What the buffers hold before trip `k`. -/
structure Inv (V0 V : Valuation τ sig (Elt Ideal)) (k : ℕ) : Prop where
  ctr : Ctr V k
  k0 : R0 V = R0 V0
  k1 : R1 V = R1 V0
  k2 : R2 V = R2 V0
  k3 : R3 V = R3 V0
  k4 : R4 V = R4 V0
  k5 : R5 V = R5 V0
  k6 : R6 V = R6 V0
  k7 : R7 V = R7 V0
  h9 : ∀ n q, R9 V (ix2 n q) = hP (af V0 n q) (bf V0 n q) k
  h10 : ∀ n q, R10 V (ix2 n q) = pP (af V0 n q) k
  h11 : ∀ n q, R11 V (ix2 n q) = hP (ar V0 n q) (br V0 n q) k
  h12 : ∀ n q, R12 V (ix2 n q) = pP (ar V0 n q) k
  h13 : ∀ (t : Fin 64) n q, t.val < k → R13 V (ix3 t n q) = sH (af V0 n q) (bf V0 n q) t.val t.isLt
  h14 : ∀ (t : Fin 64) n q, t.val < k → R14 V (ix3 t n q) = sP (af V0 n q) t.val t.isLt
  h15 : ∀ (t : Fin 64) n q, t.val < k → R15 V (ix3 t n q) = sH (ar V0 n q) (br V0 n q) t.val t.isLt
  h16 : ∀ (t : Fin 64) n q, t.val < k → R16 V (ix3 t n q) = sP (ar V0 n q) t.val t.isLt
  h17 : ∀ (t : Fin 64) n q, t.val < k → R17 V (ix3 t n q) = R4 V0 (ix3 t n q) * R5 V0 (ix3 t n q) * (R6 V0 (ix3 t n q) * sg (R6 V0 (ix3 t n q)))
  h18 : ∀ (t : Fin 64) n q, t.val < k → R18 V (ix3 t n q) = R7 V0 (ix3 t n q) * sg (R7 V0 (ix3 t n q))

theorem Inv.step {V0 V : Valuation τ sig (Elt Ideal)} {k : ℕ} (hk : k < 64) (h : Inv V0 V k) : Inv V0 (STEP V) (k + 1) where
  ctr := ctr_succ V k h.ctr
  k0 := (kp0 V).trans h.k0
  k1 := (kp1 V).trans h.k1
  k2 := (kp2 V).trans h.k2
  k3 := (kp3 V).trans h.k3
  k4 := (kp4 V).trans h.k4
  k5 := (kp5 V).trans h.k5
  k6 := (kp6 V).trans h.k6
  k7 := (kp7 V).trans h.k7
  h9 n q := by
    rw [st9 V k hk h.ctr, h.k0, h.k1, h.h9]
    refine (hP_succ (af V0 n q) (bf V0 n q) k hk).trans ?_
    simp only [hP, dif_pos hk]
  h10 n q := by
    rw [st10 V k hk h.ctr, h.k0, h.h10]
    refine (pP_succ (af V0 n q) k hk).trans ?_
    simp only [pP, dif_pos hk]
  h11 n q := by
    rw [st11 V k hk h.ctr, h.k2, h.k3, h.h11]
    refine (hP_succ (ar V0 n q) (br V0 n q) k hk).trans ?_
    simp only [hP, dif_pos hk]
  h12 n q := by
    rw [st12 V k hk h.ctr, h.k2, h.h12]
    refine (pP_succ (ar V0 n q) k hk).trans ?_
    simp only [pP, dif_pos hk]
  h13 t n q ht := by
    rw [st13 V k hk h.ctr]
    by_cases he : t.val = k
    · subst he
      rw [if_pos rfl, h.k0, h.k1, h.h9]
      exact hP_succ (af V0 n q) (bf V0 n q) t.val hk
    · rw [if_neg he]
      exact h.h13 t n q (by omega)
  h14 t n q ht := by
    rw [st14 V k hk h.ctr]
    by_cases he : t.val = k
    · subst he
      rw [if_pos rfl, h.k0, h.h10]
      exact pP_succ (af V0 n q) t.val hk
    · rw [if_neg he]
      exact h.h14 t n q (by omega)
  h15 t n q ht := by
    rw [st15 V k hk h.ctr]
    by_cases he : t.val = k
    · subst he
      rw [if_pos rfl, h.k2, h.k3, h.h11]
      exact hP_succ (ar V0 n q) (br V0 n q) t.val hk
    · rw [if_neg he]
      exact h.h15 t n q (by omega)
  h16 t n q ht := by
    rw [st16 V k hk h.ctr]
    by_cases he : t.val = k
    · subst he
      rw [if_pos rfl, h.k2, h.h12]
      exact pP_succ (ar V0 n q) t.val hk
    · rw [if_neg he]
      exact h.h16 t n q (by omega)
  h17 t n q ht := by
    rw [st17 V k hk h.ctr]
    by_cases he : t.val = k
    · subst he
      rw [if_pos rfl, h.k4, h.k5, h.k6]
    · rw [if_neg he]
      exact h.h17 t n q (by omega)
  h18 t n q ht := by
    rw [st18 V k hk h.ctr]
    by_cases he : t.val = k
    · subst he
      rw [if_pos rfl, h.k7]
    · rw [if_neg he]
      exact h.h18 t n q (by omega)

variable (m : (ℓ : Loc nD τ sig) → Buf (Elt Ideal) ℓ) (c : Dev nD)

theorem inv_zero : Inv (W13 m c) (W13 m c) 0 where
  ctr := (ctr_entry m c).trans (by rw [Scf.iv_zero])
  k0 := rfl
  k1 := rfl
  k2 := rfl
  k3 := rfl
  k4 := rfl
  k5 := rfl
  k6 := rfl
  k7 := rfl
  h9 n q := e9_at m c n q
  h10 n q := e10_at m c n q
  h11 n q := e11_at m c n q
  h12 n q := e12_at m c n q
  h13 _ _ _ ht := absurd ht (Nat.not_lt_zero _)
  h14 _ _ _ ht := absurd ht (Nat.not_lt_zero _)
  h15 _ _ _ ht := absurd ht (Nat.not_lt_zero _)
  h16 _ _ _ ht := absurd ht (Nat.not_lt_zero _)
  h17 _ _ _ ht := absurd ht (Nat.not_lt_zero _)
  h18 _ _ _ ht := absurd ht (Nat.not_lt_zero _)

theorem inv_at : ∀ k, k ≤ 64 → Inv (W13 m c) (STEP^[k] (W13 m c)) k
  | 0, _ => inv_zero m c
  | k + 1, hk => by
    rw [Function.iterate_succ_apply']
    exact (inv_at k (by omega)).step (by omega)

/-- The buffers after the loop. -/
def Z : Valuation τ sig (Elt Ideal) := STEP^[64] (entryContents preI m c)
theorem inv_end : Inv (W13 m c) (Z m c) 64 := inv_at m c 64 (le_refl _)

/-- Row of the results holding token `t` of line `16 s + k`. -/
def orow (k : Fin 16) (t : Fin 64) (s : Fin 8) : Fin 8192 := ⟨512 * k.val + (8 * t.val + s.val), by omega⟩
/-- Line `16 s + k`. -/
def line (k : Fin 16) (s : Fin 8) : Fin 128 := ⟨s.val * 16 + k.val, by omega⟩

theorem af_eq (n : Fin 128) (q : Fin 1024) : af (W13 m c) n q = AR (arg m c) 0 n q := funext fun t => e0_at m c t n q
theorem bf_eq (n : Fin 128) (q : Fin 1024) : bf (W13 m c) n q = BR (arg m c) 0 n q := funext fun t => e1_at m c t n q
theorem ar_eq (n : Fin 128) (q : Fin 1024) : ar (W13 m c) n q = fun t => AR (arg m c) 1 n q t.rev := funext fun t => e2_at m c t n q
theorem br_eq (n : Fin 128) (q : Fin 1024) : br (W13 m c) n q = fun t => BR (arg m c) 1 n q t.rev := funext fun t => e3_at m c t n q

/-- Forward states. -/
abbrev HF (A : Arg) (n : Fin 128) (q : Fin 1024) := sH (AR A 0 n q) (BR A 0 n q)
/-- Forward products. -/
abbrev PF (A : Arg) (n : Fin 128) (q : Fin 1024) := sP (AR A 0 n q)
/-- Backward states, from the line's end. -/
abbrev HB (A : Arg) (n : Fin 128) (q : Fin 1024) := sH (fun t => AR A 1 n q t.rev) (fun t => BR A 1 n q t.rev)
/-- Backward products, from the line's end. -/
abbrev PB (A : Arg) (n : Fin 128) (q : Fin 1024) := sP (fun t => AR A 1 n q t.rev)

theorem z13 (t : Fin 64) (n : Fin 128) (q : Fin 1024) : R13 (Z m c) (ix3 t n q) = HF (arg m c) n q t.val t.isLt := by
  rw [(inv_end m c).h13 t n q t.isLt, af_eq, bf_eq]
theorem z14 (t : Fin 64) (n : Fin 128) (q : Fin 1024) : R14 (Z m c) (ix3 t n q) = PF (arg m c) n q t.val t.isLt := by
  rw [(inv_end m c).h14 t n q t.isLt, af_eq]
theorem z15 (t : Fin 64) (n : Fin 128) (q : Fin 1024) : R15 (Z m c) (ix3 t n q) = HB (arg m c) n q t.val t.isLt := by
  rw [(inv_end m c).h15 t n q t.isLt, ar_eq, br_eq]
theorem z16 (t : Fin 64) (n : Fin 128) (q : Fin 1024) : R16 (Z m c) (ix3 t n q) = PB (arg m c) n q t.val t.isLt := by
  rw [(inv_end m c).h16 t n q t.isLt, ar_eq]
theorem z17 (t : Fin 64) (n : Fin 128) (q : Fin 1024) : R17 (Z m c) (ix3 t n q) = YA (arg m c) n q t := by
  rw [(inv_end m c).h17 t n q t.isLt]
  have h4 := e4_at m c t n q; have h5 := e5_at m c t n q; have h6 := e6_at m c t n q
  change R4 (W13 m c) (ix3 t n q) = _ at h4
  change R5 (W13 m c) (ix3 t n q) = _ at h5
  change R6 (W13 m c) (ix3 t n q) = _ at h6
  rw [h4, h5, h6]
  rfl
theorem z18 (t : Fin 64) (n : Fin 128) (q : Fin 1024) : R18 (Z m c) (ix3 t n q) = SQ (arg m c) n q t := by
  rw [(inv_end m c).h18 t n q t.isLt]
  have h7 := e7_at m c t n q
  change R7 (W13 m c) (ix3 t n q) = _ at h7
  rw [h7]
  rfl
theorem z9 (n : Fin 128) (q : Fin 1024) : R9 (Z m c) (ix2 n q) = HF (arg m c) n q 63 (by decide) := by
  rw [(inv_end m c).h9 n q, af_eq, bf_eq]; rfl
theorem z10 (n : Fin 128) (q : Fin 1024) : R10 (Z m c) (ix2 n q) = PF (arg m c) n q 63 (by decide) := by
  rw [(inv_end m c).h10 n q, af_eq]; rfl
theorem z11 (n : Fin 128) (q : Fin 1024) : R11 (Z m c) (ix2 n q) = HB (arg m c) n q 63 (by decide) := by
  rw [(inv_end m c).h11 n q, ar_eq, br_eq]; rfl
theorem z12 (n : Fin 128) (q : Fin 1024) : R12 (Z m c) (ix2 n q) = PB (arg m c) n q 63 (by decide) := by
  rw [(inv_end m c).h12 n q, ar_eq]; rfl

theorem orow_div (k : Fin 16) (t : Fin 64) (s : Fin 8) (h) : (⟨(orow k t s).val / 8 % 64, h⟩ : Fin 64) = t := by
  have := k.isLt; have := t.isLt; have := s.isLt
  exact Fin.ext (by simp only [orow]; omega)
theorem orow_mod (k : Fin 16) (t : Fin 64) (s : Fin 8) (h) : (⟨(orow k t s).val % 8 * 16 + (orow k t s).val / 512, h⟩ : Fin 128) = line k s := by
  have := k.isLt; have := t.isLt; have := s.isLt
  exact Fin.ext (by simp only [orow, line]; omega)

section Out
variable (V : Valuation τ sig (Elt Ideal)) (k : Fin 16) (t : Fin 64) (s : Fin 8) (q : Fin 1024)
theorem p_ya : out_main_v234 V (ix2 (orow k t s) q) = R17 V (ix3 t (line k s) q) := by
  unfold out_main_v234
  pointwise
  rw [orow_div, orow_mod]
  rfl
theorem p_s : out_main_v240 V (ix2 (orow k t s) q)
    = (R13 V (ix3 t (line k s) q) + R15 V (ix3 t.rev (line k s) q)) * R18 V (ix3 t (line k s) q) := by
  unfold out_main_v240
  pointwise
  rw [orow_div, orow_mod]
  rfl
theorem p_pf : out_main_v245 V (ix2 (orow k t s) q) = R14 V (ix3 t (line k s) q) * R18 V (ix3 t (line k s) q) := by
  unfold out_main_v245
  pointwise
  rw [orow_div, orow_mod]
  rfl
theorem p_pr : out_main_v250 V (ix2 (orow k t s) q) = R16 V (ix3 t.rev (line k s) q) * R18 V (ix3 t (line k s) q) := by
  unfold out_main_v250
  pointwise
  rw [orow_div, orow_mod]
  rfl
end Out

theorem o_ya (k : Fin 16) (t : Fin 64) (s : Fin 8) (q : Fin 1024) :
    out_main_v234 (Z m c) (ix2 (orow k t s) q) = YA (arg m c) (line k s) q t :=
  (p_ya (Z m c) k t s q).trans (z17 m c t (line k s) q)
theorem o_s (k : Fin 16) (t : Fin 64) (s : Fin 8) (q : Fin 1024) :
    out_main_v240 (Z m c) (ix2 (orow k t s) q)
      = (HF (arg m c) (line k s) q t.val t.isLt + HB (arg m c) (line k s) q t.rev.val t.rev.isLt) * SQ (arg m c) (line k s) q t := by
  rw [p_s, z13, z15, z18]
theorem o_pf (k : Fin 16) (t : Fin 64) (s : Fin 8) (q : Fin 1024) :
    out_main_v245 (Z m c) (ix2 (orow k t s) q) = PF (arg m c) (line k s) q t.val t.isLt * SQ (arg m c) (line k s) q t := by
  rw [p_pf, z14, z18]
theorem o_pr (k : Fin 16) (t : Fin 64) (s : Fin 8) (q : Fin 1024) :
    out_main_v250 (Z m c) (ix2 (orow k t s) q) = PB (arg m c) (line k s) q t.rev.val t.rev.isLt * SQ (arg m c) (line k s) q t := by
  rw [p_pr, z16, z18]

/-- The summaries of a line. -/
def EN (A : Arg) (n : Fin 128) (q : Fin 1024) (j : Fin 4) : EReal :=
  match j with
  | ⟨0, _⟩ => HF A n q 63 (by decide)
  | ⟨1, _⟩ => PF A n q 63 (by decide)
  | ⟨2, _⟩ => HB A n q 63 (by decide)
  | ⟨3, _⟩ => PB A n q 63 (by decide)
theorem o_sum (k : Fin 16) (j : Fin 4) (s : Fin 8) (q : Fin 1024) :
    out_main_v230 (Z m c) (ix4 k j s q) = EN (arg m c) (line k s) q j := by
  unfold out_main_v230
  match j with
  | ⟨0, _⟩ =>
    pointwise
    exact z9 m c (line k s) q
  | ⟨1, _⟩ =>
    pointwise
    exact z10 m c (line k s) q
  | ⟨2, _⟩ =>
    pointwise
    exact z11 m c (line k s) q
  | ⟨3, _⟩ =>
    pointwise
    exact z12 m c (line k s) q

end Cert.ReferenceIdeal.Val

end
-- ==== Proof.Bridge.lean ====
/- The run's own values, recognised as the model's: stage by stage, each by unfolding. -/
module

public import proofs.«01_k».proof.Proof.Model

@[expose] public section

set_option maxRecDepth 65536
set_option maxHeartbeats 1000000

noncomputable section

namespace Cert.KernelIdeal.Model

open Idealize.ShloMosaic Idealize.ShloMosaic.TcCoe Idealize.SL.Sem Cert.KernelIdeal Cert.KernelIdeal.Gen

variable {F : FTy → Type} [FloatOps F] [Named F]
variable (c : Dev nD) (i : grid0.Coords) (arg1 : Memref sig .tc .vmem S8x64x2048 .f32) (harg1 : arg1.IsWhole) (arg2 : Memref sig .tc .vmem S1x2048 .f32) (harg2 : arg2.IsWhole) (arg3 : Memref sig .tc .vmem S8x6144 .f32) (harg3 : arg3.IsWhole) (arg4 : Memref sig .tc .vmem S2048x6144 .bf16) (harg4 : arg4.IsWhole) (arg5 : Memref sig .tc .vmem S3x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S2x4x256x512 .bf16) (harg8 : arg8.IsWhole) (arg9 : Memref sig .tc .vmem S2x1024 .f32) (harg9 : arg9.IsWhole) (arg10 : Memref sig .tc .vmem S2x1024 .f32) (harg10 : arg10.IsWhole) (arg11 : Memref sig .tc .vmem S2x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1x4x8x1024 .f32) (harg16 : arg16.IsWhole) (arg17 : Memref sig .tc .vmem S16x512x128 .f32) (harg17 : arg17.IsWhole)
    (x0 : Vec F S8x64x2048 .f32) (x1 : Vec F S1x2048 .f32) (x2 : Vec F S8x6144 .f32) (x3 : Vec F S2048x6144 .bf16) (x4 : Vec F S3x1024 .f32) (x5 : Vec F S4x1024 .f32) (x6 : Vec F S1x1024 .f32) (x7 : Vec F S2x4x256x512 .bf16) (x8 : Vec F S2x1024 .f32) (x9 : Vec F S2x1024 .f32) (x10 : Vec F S2x1024 .f32)

/-- The point's blocks as its loads find them. -/
def inOf : In F where
  v := arg17.view
  X0 := arg1.view.read (Elt F) (harg1.unread x0)
  X1 := arg2.view.read (Elt F) (harg2.unread x1)
  X2 := arg3.view.read (Elt F) (harg3.unread x2)
  X3 := arg4.view.read (Elt F) (harg4.unread x3)
  X4 := arg5.view.read (Elt F) (harg5.unread x4)
  X5 := arg6.view.read (Elt F) (harg6.unread x5)
  X6 := arg7.view.read (Elt F) (harg7.unread x6)
  X7 := arg8.view.read (Elt F) (harg8.unread x7)
  X8 := arg9.view.read (Elt F) (harg9.unread x8)
  X9 := arg10.view.read (Elt F) (harg10.unread x9)
  X10 := arg11.view.read (Elt F) (harg11.unread x10)

theorem bya : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).1 = colPieces (YA (inOf arg1 harg1 arg2 harg2 arg3 harg3 arg4 harg4 arg5 harg5 arg6 harg6 arg7 harg7 arg8 harg8 arg9 harg9 arg10 harg10 arg11 harg11 arg17 x0 x1 x2 x3 x4 x5 x6 x7 x8 x9 x10)) := by sl_kernel_rfl
theorem bs : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.1 = colPieces (SS (inOf arg1 harg1 arg2 harg2 arg3 harg3 arg4 harg4 arg5 harg5 arg6 harg6 arg7 harg7 arg8 harg8 arg9 harg9 arg10 harg10 arg11 harg11 arg17 x0 x1 x2 x3 x4 x5 x6 x7 x8 x9 x10)) := by sl_kernel_rfl
theorem bpf : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.2.1 = colPieces (PFS (inOf arg1 harg1 arg2 harg2 arg3 harg3 arg4 harg4 arg5 harg5 arg6 harg6 arg7 harg7 arg8 harg8 arg9 harg9 arg10 harg10 arg11 harg11 arg17 x0 x1 x2 x3 x4 x5 x6 x7 x8 x9 x10)) := by sl_kernel_rfl
theorem bpr : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.2.2.1 = colPieces (PRS (inOf arg1 harg1 arg2 harg2 arg3 harg3 arg4 harg4 arg5 harg5 arg6 harg6 arg7 harg7 arg8 harg8 arg9 harg9 arg10 harg10 arg11 harg11 arg17 x0 x1 x2 x3 x4 x5 x6 x7 x8 x9 x10)) := by sl_kernel_rfl
theorem bsum : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10).2.2.2.2.1 = sumPieces (inOf arg1 harg1 arg2 harg2 arg3 harg3 arg4 harg4 arg5 harg5 arg6 harg6 arg7 harg7 arg8 harg8 arg9 harg9 arg10 harg10 arg11 harg11 arg17 x0 x1 x2 x3 x4 x5 x6 x7 x8 x9 x10) := by sl_kernel_rfl
end Cert.KernelIdeal.Model

end
-- ==== Proof.Arrays.lean ====
/- The arrays the kernel leaves: every entry is a block's value at the place the block's index says. -/
module

public import proofs.«01_k».proof.Proof.Bridge
public import proofs.«01_k».proof.Proof.Reads4
public import proofs.«01_k».proof.Proof.Gen.KernelIdeal.Value
public import Idealize.ShloMosaic.Lib.Pipeline.ValueKit

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (m : (ℓ : Loc nD τ sig) → Buf (Elt Ideal) ℓ) (c : Dev nD) (t : Fin cfg0.N)

/-- The blocks a grid point reads. -/
def blkIn : In Ideal where
  v := scM0_0.view
  X0 := iblk m c 0 t
  X1 := iblk m c 1 t
  X2 := iblk m c 2 t
  X3 := iblk m c 3 t
  X4 := iblk m c 4 t
  X5 := iblk m c 5 t
  X6 := iblk m c 6 t
  X7 := iblk m c 7 t
  X8 := iblk m c 8 t
  X9 := iblk m c 9 t
  X10 := iblk m c 10 t

theorem inOf_eq : inOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) = blkIn m c t := by
  unfold inOf blkIn
  simp only [Memref.IsWhole.read_unread]

theorem out_ya : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = View.canon (colPieces (YA (blkIn m c t))) := by
  unfold out0_A_11
  rw [View.read_writes_junk_eq_canon, bya, inOf_eq]

theorem out_s : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = View.canon (colPieces (SS (blkIn m c t))) := by
  unfold out0_A_12
  rw [View.read_writes_junk_eq_canon, bs, inOf_eq]

theorem out_pf : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = View.canon (colPieces (PFS (blkIn m c t))) := by
  unfold out0_A_13
  rw [View.read_writes_junk_eq_canon, bpf, inOf_eq]

theorem out_pr : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = View.canon (colPieces (PRS (blkIn m c t))) := by
  unfold out0_A_14
  rw [View.read_writes_junk_eq_canon, bpr, inOf_eq]

theorem out_sum : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) = View.canon (sumPieces (blkIn m c t)) := by
  unfold out0_A_15
  rw [View.read_writes_junk_eq_canon, bsum, inOf_eq]

/-! ## Where the blocks lie -/

theorem at0 : ∀ t : Fin cfg0.N, win0_0.index t = ![0, t.val, 0] := (by decide +kernel : ∀ t : Fin grid0.N, win0_0.index t = ![0, t.val, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0, 0, 0] := (by decide +kernel : ∀ t : Fin grid0.N, win0_7.index t = ![0, 0, 0, 0])
theorem at8 : ∀ t : Fin cfg0.N, win0_8.index t = ![0, 0] := (by decide +kernel : ∀ t : Fin grid0.N, win0_8.index t = ![0, 0])
theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![t.val, 0] := (by decide +kernel : ∀ t : Fin grid0.N, win0_11.index t = ![t.val, 0])
theorem at12 : ∀ t : Fin cfg0.N, win0_12.index t = ![t.val, 0] := (by decide +kernel : ∀ t : Fin grid0.N, win0_12.index t = ![t.val, 0])
theorem at13 : ∀ t : Fin cfg0.N, win0_13.index t = ![t.val, 0] := (by decide +kernel : ∀ t : Fin grid0.N, win0_13.index t = ![t.val, 0])
theorem at14 : ∀ t : Fin cfg0.N, win0_14.index t = ![t.val, 0] := (by decide +kernel : ∀ t : Fin grid0.N, win0_14.index t = ![t.val, 0])
theorem at15 : ∀ t : Fin cfg0.N, win0_15.index t = ![t.val, 0, 0, 0] := (by decide +kernel : ∀ t : Fin grid0.N, win0_15.index t = ![t.val, 0, 0, 0])

theorem x0_at (k : Fin cfg0.N) (s : Fin 8) (t : Fin 64) (q : Fin 2048) :
    (blkIn m c k).X0 (ix3 s t q) = V m c main_v1 (ix3 s ⟨64 * k.val + t, by have : k.val < 16 := k.isLt; omega⟩ q) := by
  refine congrArg (V m c main_v1) (funext fun a => Fin.ext ?_)
  match a with
  | ⟨0, _⟩ => blk_simp [at0]
  | ⟨1, _⟩ => blk_simp [at0]; show k.val * 64 + t.val = 64 * k.val + t.val; omega
  | ⟨2, _⟩ => blk_simp [at0]

theorem x1_at (k : Fin cfg0.N) (a : Fin 1) (b : Fin 2048) :
    (blkIn m c k).X1 (ix2 a b) = V m c main_arg2 (ix2 a b) := by
  refine congrArg (V m c main_arg2) (funext fun a => Fin.ext ?_)
  match a with
  | ⟨0, _⟩ => blk_simp [at1]
  | ⟨1, _⟩ => blk_simp [at1]

theorem x2_at (k : Fin cfg0.N) (a : Fin 8) (b : Fin 6144) :
    (blkIn m c k).X2 (ix2 a b) = V m c main_arg1 (ix2 a b) := by
  refine congrArg (V m c main_arg1) (funext fun a => Fin.ext ?_)
  match a with
  | ⟨0, _⟩ => blk_simp [at2]
  | ⟨1, _⟩ => blk_simp [at2]

theorem x3_at (k : Fin cfg0.N) (a : Fin 2048) (b : Fin 6144) :
    (blkIn m c k).X3 (ix2 a b) = V m c main_v26 (ix2 a b) := by
  refine congrArg (V m c main_v26) (funext fun a => Fin.ext ?_)
  match a with
  | ⟨0, _⟩ => blk_simp [at3]
  | ⟨1, _⟩ => blk_simp [at3]

theorem x4_at (k : Fin cfg0.N) (a : Fin 3) (b : Fin 1024) :
    (blkIn m c k).X4 (ix2 a b) = V m c main_v27 (ix2 a b) := by
  refine congrArg (V m c main_v27) (funext fun a => Fin.ext ?_)
  match a with
  | ⟨0, _⟩ => blk_simp [at4]
  | ⟨1, _⟩ => blk_simp [at4]

theorem x5_at (k : Fin cfg0.N) (a : Fin 4) (b : Fin 1024) :
    (blkIn m c k).X5 (ix2 a b) = V m c main_v28 (ix2 a b) := by
  refine congrArg (V m c main_v28) (funext fun a => Fin.ext ?_)
  match a with
  | ⟨0, _⟩ => blk_simp [at5]
  | ⟨1, _⟩ => blk_simp [at5]

theorem x6_at (k : Fin cfg0.N) (a : Fin 1) (b : Fin 1024) :
    (blkIn m c k).X6 (ix2 a b) = V m c main_arg6 (ix2 a b) := by
  refine congrArg (V m c main_arg6) (funext fun a => Fin.ext ?_)
  match a with
  | ⟨0, _⟩ => blk_simp [at6]
  | ⟨1, _⟩ => blk_simp [at6]

theorem x7_at (k : Fin cfg0.N) (a : Fin 2) (b : Fin 4) (d : Fin 256) (e : Fin 512) :
    (blkIn m c k).X7 (ix4 a b d e) = V m c main_v62 (ix4 a b d e) := by
  refine congrArg (V m c main_v62) (funext fun a => Fin.ext ?_)
  match a with
  | ⟨0, _⟩ => blk_simp [at7]
  | ⟨1, _⟩ => blk_simp [at7]
  | ⟨2, _⟩ => blk_simp [at7]
  | ⟨3, _⟩ => blk_simp [at7]

theorem x8_at (k : Fin cfg0.N) (a : Fin 2) (b : Fin 1024) :
    (blkIn m c k).X8 (ix2 a b) = V m c main_v63 (ix2 a b) := by
  refine congrArg (V m c main_v63) (funext fun a => Fin.ext ?_)
  match a with
  | ⟨0, _⟩ => blk_simp [at8]
  | ⟨1, _⟩ => blk_simp [at8]

theorem x9_at (k : Fin cfg0.N) (a : Fin 2) (b : Fin 1024) :
    (blkIn m c k).X9 (ix2 a b) = V m c main_v64 (ix2 a b) := by
  refine congrArg (V m c main_v64) (funext fun a => Fin.ext ?_)
  match a with
  | ⟨0, _⟩ => blk_simp [at9]
  | ⟨1, _⟩ => blk_simp [at9]

theorem x10_at (k : Fin cfg0.N) (a : Fin 2) (b : Fin 1024) :
    (blkIn m c k).X10 (ix2 a b) = V m c main_v65 (ix2 a b) := by
  refine congrArg (V m c main_v65) (funext fun a => Fin.ext ?_)
  match a with
  | ⟨0, _⟩ => blk_simp [at10]
  | ⟨1, _⟩ => blk_simp [at10]

theorem arr_ya (k : Fin cfg0.N) (s : Fin 8) (t : Fin 64) (g : Fin 4) (l : Fin 256) :
    (dats m 0 c).arrAt 11 cfg0.N (ix2 ⟨512 * k.val + (8 * t + s), by have : k.val < 16 := k.isLt; omega⟩ (chan g l)) =
      yaX (blkIn m c k) s t g l := by
  have h := congrFun ((Value.blocks11 m c k (flush0_11 k)).trans (Value.flushed11_A m c k)) (ix2 (brow t s) (chan g l))
  rw [out_ya] at h
  refine Eq.trans ?_ (h.trans ?_)
  · refine congrArg ((dats m 0 c).arrAt 11 cfg0.N) (funext fun a => Fin.ext ?_)
    match a with
    | ⟨0, _⟩ => blk_simp [at11]; show 512 * k.val + (8 * t.val + s.val) = k.val * 512 + (8 * t.val + s.val); omega
    | ⟨1, _⟩ => blk_simp [at11]
  · exact (cols_at _ _ _ _).trans (YA_at _ _ _ _ _)

theorem arr_s (k : Fin cfg0.N) (s : Fin 8) (t : Fin 64) (g : Fin 4) (l : Fin 256) :
    (dats m 0 c).arrAt 12 cfg0.N (ix2 ⟨512 * k.val + (8 * t + s), by have : k.val < 16 := k.isLt; omega⟩ (chan g l)) =
      (hfX (blkIn m c k) s g l t t.isLt + hrX (blkIn m c k) s g l (63 - t) (by omega)) * sqX (blkIn m c k) s t g l := by
  have h := congrFun ((Value.blocks12 m c k (flush0_12 k)).trans (Value.flushed12_A m c k)) (ix2 (brow t s) (chan g l))
  rw [out_s] at h
  refine Eq.trans ?_ (h.trans ?_)
  · refine congrArg ((dats m 0 c).arrAt 12 cfg0.N) (funext fun a => Fin.ext ?_)
    match a with
    | ⟨0, _⟩ => blk_simp [at12]; show 512 * k.val + (8 * t.val + s.val) = k.val * 512 + (8 * t.val + s.val); omega
    | ⟨1, _⟩ => blk_simp [at12]
  · exact (cols_at _ _ _ _).trans (SS_at _ _ _ _ _)

theorem arr_pf (k : Fin cfg0.N) (s : Fin 8) (t : Fin 64) (g : Fin 4) (l : Fin 256) :
    (dats m 0 c).arrAt 13 cfg0.N (ix2 ⟨512 * k.val + (8 * t + s), by have : k.val < 16 := k.isLt; omega⟩ (chan g l)) =
      pfX (blkIn m c k) s g l t t.isLt * sqX (blkIn m c k) s t g l := by
  have h := congrFun ((Value.blocks13 m c k (flush0_13 k)).trans (Value.flushed13_A m c k)) (ix2 (brow t s) (chan g l))
  rw [out_pf] at h
  refine Eq.trans ?_ (h.trans ?_)
  · refine congrArg ((dats m 0 c).arrAt 13 cfg0.N) (funext fun a => Fin.ext ?_)
    match a with
    | ⟨0, _⟩ => blk_simp [at13]; show 512 * k.val + (8 * t.val + s.val) = k.val * 512 + (8 * t.val + s.val); omega
    | ⟨1, _⟩ => blk_simp [at13]
  · exact (cols_at _ _ _ _).trans (PFS_at _ _ _ _ _)

theorem arr_pr (k : Fin cfg0.N) (s : Fin 8) (t : Fin 64) (g : Fin 4) (l : Fin 256) :
    (dats m 0 c).arrAt 14 cfg0.N (ix2 ⟨512 * k.val + (8 * t + s), by have : k.val < 16 := k.isLt; omega⟩ (chan g l)) =
      prX (blkIn m c k) s g l (63 - t) (by omega) * sqX (blkIn m c k) s t g l := by
  have h := congrFun ((Value.blocks14 m c k (flush0_14 k)).trans (Value.flushed14_A m c k)) (ix2 (brow t s) (chan g l))
  rw [out_pr] at h
  refine Eq.trans ?_ (h.trans ?_)
  · refine congrArg ((dats m 0 c).arrAt 14 cfg0.N) (funext fun a => Fin.ext ?_)
    match a with
    | ⟨0, _⟩ => blk_simp [at14]; show 512 * k.val + (8 * t.val + s.val) = k.val * 512 + (8 * t.val + s.val); omega
    | ⟨1, _⟩ => blk_simp [at14]
  · exact (cols_at _ _ _ _).trans (PRS_at _ _ _ _ _)

theorem arr_sum (k : Fin cfg0.N) (j : Fin 4) (s : Fin 8) (g : Fin 4) (l : Fin 256) :
    (dats m 0 c).arrAt 15 cfg0.N (ix4 ⟨k.val, k.isLt⟩ j s (chan g l)) = endX (blkIn m c k) j s g l := by
  have h := congrFun ((Value.blocks15 m c k (flush0_15 k)).trans (Value.flushed15_A m c k)) (ix4 0 j s (chan g l))
  rw [out_sum] at h
  refine Eq.trans ?_ (h.trans ?_)
  · refine congrArg ((dats m 0 c).arrAt 15 cfg0.N) (funext fun a => Fin.ext ?_)
    match a with
    | ⟨0, _⟩ => blk_simp [at15]; show k.val + 0 = k.val; omega
    | ⟨1, _⟩ => blk_simp [at15]
    | ⟨2, _⟩ => blk_simp [at15]
    | ⟨3, _⟩ => blk_simp [at15]
  · exact sums_at _ _ _ _ _

end Cert.KernelIdeal.Model

end
-- ==== Proof.Prep.lean ====
/- What the host's preparation leaves in the kernel's operands, at an index. -/
module

public import proofs.«01_k».proof.Proof.Reads2
public import proofs.«01_k».proof.Proof.Gen.KernelIdeal.Value
public import Idealize.ShloMosaic.Lib.StableHlo.ReadAt
public import Idealize.ShloMosaic.Lib.Claim

@[expose] public section

set_option maxRecDepth 16384
set_option maxHeartbeats 1000000

noncomputable section

namespace Cert.KernelIdeal.Model

open Idealize.ShloMosaic Idealize.ShloMosaic.TcCoe Idealize.SL.Sem Cert.KernelIdeal Cert.KernelIdeal.Gen
open Idealize.ShloMosaic.StridedRows Cert.Kit

variable (m : (ℓ : Loc nD τ sig) → Buf (Elt Ideal) ℓ) (c : Dev nD)

theorem prep_x (s : Fin 8) (n : Fin 1024) (q : Fin 2048) :
    V m c main_v1 (ix3 s n q) = m ((c : Thread nD τ).loc main_arg0) (ix3 0 ⟨s * 1024 + n, by omega⟩ q) := by
  unfold V
  after_reads_at

theorem prep_ca (j : Fin 3) (q : Fin 1024) : V m c main_v27 (ix2 j q) = m ((c : Thread nD τ).loc main_arg4) (ix3 0 j q) := by
  unfold V
  after_reads_at

theorem prep_cb (j : Fin 4) (q : Fin 1024) : V m c main_v28 (ix2 j q) = m ((c : Thread nD τ).loc main_arg5) (ix3 0 j q) := by
  unfold V
  after_reads_at

theorem prep_ba (d : Fin 2) (q : Fin 1024) : V m c main_v63 (ix2 d q) = m ((c : Thread nD τ).loc main_arg8) (ix3 0 d q) := by
  unfold V
  after_reads_at

theorem prep_bx (d : Fin 2) (q : Fin 1024) : V m c main_v64 (ix2 d q) = m ((c : Thread nD τ).loc main_arg10) (ix3 0 d q) := by
  unfold V
  after_reads_at

theorem prep_la (d : Fin 2) (q : Fin 1024) : V m c main_v65 (ix2 d q) = m ((c : Thread nD τ).loc main_arg11) (ix3 0 d q) := by
  unfold V
  after_reads_at

/-- The packed projection's columns: the convolved part of a group, -/
theorem prep_v (r : Fin 2048) (g : Fin 4) (l : Fin 256) :
    V m c main_v26 (ix2 r (vcol g l)) = m ((c : Thread nD τ).loc main_arg3) (ix3 0 r ⟨4096 + (256 * g + l), by omega⟩) := by
  unfold V vcol
  after_reads_at
  rw [dif_pos (by omega)]
  after_reads_at
  match g with
  | ⟨0, _⟩ =>
    rw [dif_neg (by simp; omega)]
    after_reads_at
    exact congrArg (m ((c : Thread nD τ).loc main_arg3)) (congrArg (ix3 0 r) (Fin.ext (by simp; omega)))
  | ⟨1, _⟩ =>
    rw [dif_pos (by simp; omega)]
    after_reads_at
    exact congrArg (m ((c : Thread nD τ).loc main_arg3)) (congrArg (ix3 0 r) (Fin.ext (by simp; omega)))
  | ⟨2, _⟩ =>
    rw [dif_pos (by simp; omega)]
    after_reads_at
    exact congrArg (m ((c : Thread nD τ).loc main_arg3)) (congrArg (ix3 0 r) (Fin.ext (by simp; omega)))
  | ⟨3, _⟩ =>
    rw [dif_pos (by simp; omega)]
    after_reads_at
    exact congrArg (m ((c : Thread nD τ).loc main_arg3)) (congrArg (ix3 0 r) (Fin.ext (by simp; omega)))

/-- and its gate of the second head group. -/
theorem prep_p0 (r : Fin 2048) (g : Fin 4) (l : Fin 256) :
    V m c main_v26 (ix2 r (pcol g 0 l)) = m ((c : Thread nD τ).loc main_arg3) (ix3 0 r ⟨5120 + (256 * g + l), by omega⟩) := by
  have e : pcol g 0 l = ⟨1536 * g + 256 + l, by omega⟩ := rfl
  rw [e]
  unfold V
  after_reads_at
  rw [dif_neg (by omega), dif_pos (by omega)]
  after_reads_at
  exact congrArg (m ((c : Thread nD τ).loc main_arg3)) (congrArg (ix3 0 r) (Fin.ext (by dsimp only; omega)))

/-- and its second factor. -/
theorem prep_p1 (r : Fin 2048) (g : Fin 4) (l : Fin 256) :
    V m c main_v26 (ix2 r (pcol g 1 l)) = m ((c : Thread nD τ).loc main_arg3) (ix3 0 r ⟨1024 + (256 * g + l), by omega⟩) := by
  have e : pcol g 1 l = ⟨1536 * g + 512 + l, by omega⟩ := rfl
  rw [e]
  unfold V
  after_reads_at
  rw [dif_neg (by omega), dif_neg (by omega), dif_pos (by omega)]
  after_reads_at
  exact congrArg (m ((c : Thread nD τ).loc main_arg3)) (congrArg (ix3 0 r) (Fin.ext (by dsimp only; omega)))

/-- and its third factor. -/
theorem prep_p2 (r : Fin 2048) (g : Fin 4) (l : Fin 256) :
    V m c main_v26 (ix2 r (pcol g 2 l)) = m ((c : Thread nD τ).loc main_arg3) (ix3 0 r ⟨2048 + (256 * g + l), by omega⟩) := by
  have e : pcol g 2 l = ⟨1536 * g + 768 + l, by omega⟩ := rfl
  rw [e]
  unfold V
  after_reads_at
  rw [dif_neg (by omega), dif_neg (by omega), dif_neg (by omega), dif_pos (by omega)]
  after_reads_at
  exact congrArg (m ((c : Thread nD τ).loc main_arg3)) (congrArg (ix3 0 r) (Fin.ext (by dsimp only; omega)))

/-- and its first factor. -/
theorem prep_p3 (r : Fin 2048) (g : Fin 4) (l : Fin 256) :
    V m c main_v26 (ix2 r (pcol g 3 l)) = m ((c : Thread nD τ).loc main_arg3) (ix3 0 r ⟨0 + (256 * g + l), by omega⟩) := by
  have e : pcol g 3 l = ⟨1536 * g + 1024 + l, by omega⟩ := rfl
  rw [e]
  unfold V
  after_reads_at
  rw [dif_neg (by omega), dif_neg (by omega), dif_neg (by omega), dif_neg (by omega), dif_pos (by omega)]
  after_reads_at
  exact congrArg (m ((c : Thread nD τ).loc main_arg3)) (congrArg (ix3 0 r) (Fin.ext (by dsimp only; omega)))

/-- and its gate of the first head group. -/
theorem prep_p4 (r : Fin 2048) (g : Fin 4) (l : Fin 256) :
    V m c main_v26 (ix2 r (pcol g 4 l)) = m ((c : Thread nD τ).loc main_arg3) (ix3 0 r ⟨3072 + (256 * g + l), by omega⟩) := by
  have e : pcol g 4 l = ⟨1536 * g + 1280 + l, by omega⟩ := rfl
  rw [e]
  unfold V
  after_reads_at
  rw [dif_neg (by omega), dif_neg (by omega), dif_neg (by omega), dif_neg (by omega), dif_neg (by omega)]
  after_reads_at
  exact congrArg (m ((c : Thread nD τ).loc main_arg3)) (congrArg (ix3 0 r) (Fin.ext (by dsimp only; omega)))

/-- An entry of the identity matrix the gates are spread by. -/
theorem eye_at : ∀ a b : Fin 4, (FloatOps.uitofp FTy.f32 (IntOp.cmpi CmpIPredicate.eq (IntOp.addi (BitVec.ofNat 32 a) 0#32) (BitVec.ofNat 32 b)) : Ideal .f32) = if a = b then (1 : EReal) else 0 := by
  intro a b
  have h : IntOp.cmpi CmpIPredicate.eq (IntOp.addi (BitVec.ofNat 32 a) 0#32) (BitVec.ofNat 32 b) = if a = b then 1#1 else 0#1 := by
    revert a b; decide
  rw [h]
  split
  · show (((1#1 : BitVec 1).toNat : ℝ) : EReal) = 1
    simp
  · show (((0#1 : BitVec 1).toNat : ℝ) : EReal) = 0
    simp

theorem prep_ga (d : Fin 2) (g : Fin 4) (a : Fin 4) (i : Fin 64) (b : Fin 4) (j : Fin 64) :
    V m c main_v62 (ix4 d g ⟨64 * a + i, by omega⟩ ⟨64 * b + j, by omega⟩) =
      (Ideal.ofBits .f32 0x3F000000#32 * (m ((c : Thread nD τ).loc main_arg7) : _ → EReal) (ix5 0 d ⟨4 * g + a, by omega⟩ i j) * (if a = b then (1 : EReal) else 0) : EReal) := by
  rw [← eye_at]
  unfold V
  after_reads_at
  rw [dif_pos (by omega)]
  after_reads_at
  exact congrArg₂ (· * ·) (congrArg (_ * ·) (congrArg (m ((c : Thread nD τ).loc main_arg7)) (congrArg (ix5 0 d · i j) (Fin.ext (by dsimp only; omega))))) rfl

theorem prep_gx (d : Fin 2) (g : Fin 4) (a : Fin 4) (i : Fin 64) (b : Fin 4) (j : Fin 64) :
    V m c main_v62 (ix4 d g ⟨64 * a + i, by omega⟩ ⟨256 + (64 * b + j), by omega⟩) =
      (Ideal.ofBits .f32 0x3F000000#32 * (m ((c : Thread nD τ).loc main_arg9) : _ → EReal) (ix5 0 d ⟨4 * g + a, by omega⟩ i j) * (if a = b then (1 : EReal) else 0) : EReal) := by
  rw [← eye_at]
  unfold V
  after_reads_at
  after_reads_at
  exact congrArg₂ (· * ·) (congrArg (_ * ·) (congrArg (m ((c : Thread nD τ).loc main_arg9)) (congrArg (ix5 0 d · i j) (Fin.ext (by dsimp only; omega))))) rfl

end Cert.KernelIdeal.Model

end
-- ==== Proof.Same.lean ====
module

public import proofs.«01_k».proof.Proof.Link
public import proofs.«01_k».proof.Proof.RefEnd
public import proofs.«01_k».proof.Proof.Arrays
public import proofs.«01_k».proof.Proof.Prep
public import proofs.«01_k».proof.Defs

@[expose] public section

set_option maxRecDepth 16384
set_option maxHeartbeats 400000

noncomputable section

/-! The kernel's result arrays are the reference's, on arguments that are real. -/
namespace Cert.Same

open Idealize.ShloMosaic Idealize.ShloMosaic.TcCoe Idealize.SL.Sem Cert.KernelIdeal Cert.KernelIdeal.Gen Cert.Spec
open Cert.KernelIdeal.Model (blkIn chan)
open Cert.ReferenceIdeal.Val (line orow Z EN HF PF HB PB)

variable (m : (ℓ : Loc nD τ sig) → Buf (Elt Ideal) ℓ) (c : Dev nD)

/-- The arguments the kernel holds at the start. -/
def karg : Arg where
  x := m ((c.tc : Thread nD τ).loc main_arg0)
  md := m ((c.tc : Thread nD τ).loc main_arg1)
  ng := m ((c.tc : Thread nD τ).loc main_arg2)
  wi := m ((c.tc : Thread nD τ).loc main_arg3)
  ca := m ((c.tc : Thread nD τ).loc main_arg4)
  cb := m ((c.tc : Thread nD τ).loc main_arg5)
  bb := m ((c.tc : Thread nD τ).loc main_arg6)
  wa := m ((c.tc : Thread nD τ).loc main_arg7)
  ba := m ((c.tc : Thread nD τ).loc main_arg8)
  wx := m ((c.tc : Thread nD τ).loc main_arg9)
  bx := m ((c.tc : Thread nD τ).loc main_arg10)
  la := m ((c.tc : Thread nD τ).loc main_arg11)

/-- What a grid point reads is the prepared arguments. -/
theorem feeds (k : Fin cfg0.N) : Feeds (blkIn m c k) (karg m c) (fun s => line ⟨k.val, k.isLt⟩ s) where
  x s t q := (Model.x0_at m c k s t q).trans ((Model.prep_x m c s _ q).trans (congrArg (m ((c.tc : Thread nD τ).loc main_arg0))
    (congrArg (ix3 0 · q) (Fin.ext (by simp [tok, line]; omega)))))
  ng q := (Model.x1_at m c k 0 q).trans (congrFun (V_main_arg2 m c) _)
  md q := (Model.x2_at m c k 0 q).trans (congrFun (V_main_arg1 m c) _)
  v r g l := (Model.x3_at m c k r _).trans (Model.prep_v m c r g l)
  p0 r g l := (Model.x3_at m c k r _).trans (Model.prep_p0 m c r g l)
  p1 r g l := (Model.x3_at m c k r _).trans (Model.prep_p1 m c r g l)
  p2 r g l := (Model.x3_at m c k r _).trans (Model.prep_p2 m c r g l)
  p3 r g l := (Model.x3_at m c k r _).trans ((Model.prep_p3 m c r g l).trans (congrArg (m ((c.tc : Thread nD τ).loc main_arg3))
    (congrArg (ix3 0 r) (Fin.ext (by simp [col])))))
  p4 r g l := (Model.x3_at m c k r _).trans (Model.prep_p4 m c r g l)
  ca j q := (Model.x4_at m c k j q).trans (Model.prep_ca m c j q)
  cb j q := (Model.x5_at m c k j q).trans (Model.prep_cb m c j q)
  bb q := (Model.x6_at m c k 0 q).trans (congrFun (V_main_arg6 m c) _)
  wa d g a i b j := (Model.x7_at m c k d g _ _).trans (Model.prep_ga m c d g a i b j)
  wx d g a i b j := (Model.x7_at m c k d g _ _).trans (Model.prep_gx m c d g a i b j)
  ba d q := (Model.x8_at m c k d q).trans (Model.prep_ba m c d q)
  bx d q := (Model.x9_at m c k d q).trans (Model.prep_bx m c d q)
  la d q := (Model.x10_at m c k d q).trans (Model.prep_la m c d q)

/-- A result's index: a grid point's row of a token and a channel. -/
theorem split (i : S8192x1024.Idx) : ∃ (k : Fin 16) (t : Fin 64) (s : Fin 8) (g : Fin 4) (l : Fin 256), i = ix2 (orow k t s) (chan g l) := by
  have h0 : (i 0).val < 8192 := (i 0).isLt
  have h1 : (i 1).val < 1024 := (i 1).isLt
  refine ⟨⟨(i 0).val / 512, by omega⟩, ⟨(i 0).val % 512 / 8, by omega⟩, ⟨(i 0).val % 8, by omega⟩, ⟨(i 1).val / 256, by omega⟩, ⟨(i 1).val % 256, by omega⟩, ?_⟩
  funext a
  match a with
  | ⟨0, _⟩ => exact Fin.ext (show (i 0).val = 512 * ((i 0).val / 512) + (8 * ((i 0).val % 512 / 8) + (i 0).val % 8) by omega)
  | ⟨1, _⟩ => exact Fin.ext (show (i 1).val = 256 * ((i 1).val / 256) + (i 1).val % 256 by omega)

theorem split4 (i : S16x4x8x1024.Idx) : ∃ (k : Fin 16) (j : Fin 4) (s : Fin 8) (g : Fin 4) (l : Fin 256), i = ix4 k j s (chan g l) := by
  have h3 : (i 3).val < 1024 := (i 3).isLt
  refine ⟨i 0, i 1, i 2, ⟨(i 3).val / 256, by omega⟩, ⟨(i 3).val % 256, by omega⟩, ?_⟩
  funext a
  match a with
  | ⟨0, _⟩ => rfl
  | ⟨1, _⟩ => rfl
  | ⟨2, _⟩ => rfl
  | ⟨3, _⟩ => exact Fin.ext (show (i 3).val = 256 * ((i 3).val / 256) + (i 3).val % 256 by omega)

theorem sH_idx (a b : Fin 64 → EReal) {x y : ℕ} (e : x = y) (hx : x < 64) (hy : y < 64) : Model.sH a b x hx = Model.sH a b y hy := by subst e; rfl
theorem sP_idx (a : Fin 64 → EReal) {x y : ℕ} (e : x = y) (hx : x < 64) (hy : y < 64) : Model.sP a x hx = Model.sP a y hy := by subst e; rfl

section Results
variable (m' : (ℓ : Loc ReferenceIdeal.nD ReferenceIdeal.τ ReferenceIdeal.sig) → Buf (Elt Ideal) ℓ)
  (h : ReferenceIdeal.Val.arg m' c = karg m c) (H : Real' (karg m c))
include h H

theorem ya_same (i : S8192x1024.Idx) : ReferenceIdeal.Value.out_main_v234 (Z m' c) i = (dats m 0 c).arrAt 11 cfg0.N i := by
  obtain ⟨k, t, s, g, l, rfl⟩ := split i
  rw [ReferenceIdeal.Val.o_ya, h]
  exact ((Model.arr_ya m c k s t g l).trans (ya_eq (feeds m c k) H s t g l)).symm

theorem s_same (i : S8192x1024.Idx) : ReferenceIdeal.Value.out_main_v240 (Z m' c) i = (dats m 0 c).arrAt 12 cfg0.N i := by
  obtain ⟨k, t, s, g, l, rfl⟩ := split i
  rw [ReferenceIdeal.Val.o_s, h]
  refine Eq.trans ?_ (Model.arr_s m c k s t g l).symm
  rw [sq_eq (feeds m c k) H, hf_eq (feeds m c k) H, hr_eq (feeds m c k) H]
  exact congrArg (· * _) (congrArg (_ + ·) (sH_idx _ _ (by simp [Fin.rev]) _ _))

theorem pf_same (i : S8192x1024.Idx) : ReferenceIdeal.Value.out_main_v245 (Z m' c) i = (dats m 0 c).arrAt 13 cfg0.N i := by
  obtain ⟨k, t, s, g, l, rfl⟩ := split i
  rw [ReferenceIdeal.Val.o_pf, h]
  refine Eq.trans ?_ (Model.arr_pf m c k s t g l).symm
  rw [sq_eq (feeds m c k) H, pf_eq (feeds m c k) H]

theorem pr_same (i : S8192x1024.Idx) : ReferenceIdeal.Value.out_main_v250 (Z m' c) i = (dats m 0 c).arrAt 14 cfg0.N i := by
  obtain ⟨k, t, s, g, l, rfl⟩ := split i
  rw [ReferenceIdeal.Val.o_pr, h]
  refine Eq.trans ?_ (Model.arr_pr m c k s t g l).symm
  rw [sq_eq (feeds m c k) H, pr_eq (feeds m c k) H]
  exact congrArg (· * _) (sP_idx _ (by simp [Fin.rev]) _ _)

theorem sum_same (i : S16x4x8x1024.Idx) : ReferenceIdeal.Value.out_main_v230 (Z m' c) i = (dats m 0 c).arrAt 15 cfg0.N i := by
  obtain ⟨k, j, s, g, l, rfl⟩ := split4 i
  rw [ReferenceIdeal.Val.o_sum, h]
  refine Eq.trans ?_ (Model.arr_sum m c k j s g l).symm
  match j with
  | ⟨0, _⟩ => exact (congrFun (congrFun (hf_eq (feeds m c k) H s g l) 63) _).symm
  | ⟨1, _⟩ => exact (congrFun (congrFun (pf_eq (feeds m c k) H s g l) 63) _).symm
  | ⟨2, _⟩ => exact (congrFun (congrFun (hr_eq (feeds m c k) H s g l) 63) _).symm
  | ⟨3, _⟩ => exact (congrFun (congrFun (pr_eq (feeds m c k) H s g l) 63) _).symm

end Results

/-- A value of absolute value below infinity is real. -/
theorem real_of (x : EReal) (h : Ideal.cmp .olt (FloatOps.absf (F := Ideal) (φ := .f32) x : EReal) (Ideal.ofBits .f32 0x7F800000#32) = 1#1) : IsR x := by
  have ht : Ideal.ofBits .f32 0x7F800000#32 = ⊤ := by simp [Ideal.ofBits, Ideal.ieee]
  rw [ht, Ideal.absf_def] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => simp at hlt
  | top => simp at hlt
  | coe r => exact ⟨r, rfl⟩

/-- The precondition's side facts. -/
theorem preFacts : Cert.Pre_finite.Facts := by
  constructor <;> decide

theorem real_pre (h : Cert.Pre_KernelIdeal_finite (hPre_finite := preFacts) m) : Real' (karg m c) := by
  obtain ⟨h0, h1, h2, h3, h4, h5, h6, h7, h8, h9, h10, h11⟩ := h c
  exact {
    x := fun i => real_of _ (congrFun h0 i)
    md := fun i => real_of _ (congrFun h1 i)
    ng := fun i => real_of _ (congrFun h2 i)
    wi := fun i => real_of _ (congrFun h3 i)
    ca := fun i => real_of _ (congrFun h4 i)
    cb := fun i => real_of _ (congrFun h5 i)
    bb := fun i => real_of _ (congrFun h6 i)
    wa := fun i => real_of _ (congrFun h7 i)
    ba := fun i => real_of _ (congrFun h8 i)
    wx := fun i => real_of _ (congrFun h9 i)
    bx := fun i => real_of _ (congrFun h10 i)
    la := fun i => real_of _ (congrFun h11 i) }

end Cert.Same

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.Same

@[expose] public section

noncomputable section

namespace Cert.Proof

open Idealize.ShloMosaic Idealize.SL.Sem Cert.Kernel

/-- The reference runs, keeps its arguments, and has no semaphore. -/
theorem frame_reference : Cert.quiescent_ReferenceIdeal := fun m g _ =>
  (θ_run Cert.ReferenceIdeal.defs _ _).mono
    (fun r h => And.intro (fun c => (h c).2.2.2.2.2) (sem_eq_zero_of_no_sems (by decide) r.2)) (Cert.ReferenceIdeal.Value.run (F := Ideal) m g)

/-- The two ideal programs' results agree on real arguments. -/
theorem algebraic : Cert.algebraic_KernelIdeal_ReferenceIdeal_pre_finite (hPre_finite := Cert.Same.preFacts) := by
  intro m g m' g' hpre hagree
  refine ⟨_, _, _, _, _, Cert.KernelIdeal.Value.run_blocks (F := Ideal) m g, (θ_run Cert.ReferenceIdeal.defs _ _).mono (fun r h c => ?_) (Cert.ReferenceIdeal.Value.run (F := Ideal) m' g')⟩
  have H := Cert.Same.real_pre m c hpre
  have e : Cert.ReferenceIdeal.Val.arg m' c = Cert.Same.karg m c := by
    obtain ⟨a0, a1, a2, a3, a4, a5, a6, a7, a8, a9, a10, a11⟩ := hagree c
    unfold Cert.ReferenceIdeal.Val.arg Cert.Same.karg
    rw [a0, a1, a2, a3, a4, a5, a6, a7, a8, a9, a10, a11]
  obtain ⟨h0, h1, h2, h3, h4, hk⟩ := h c
  exact ⟨h0.trans (funext (Cert.Same.ya_same m c m' e H)), h1.trans (funext (Cert.Same.s_same m c m' e H)),
    h2.trans (funext (Cert.Same.pf_same m c m' e H)), h3.trans (funext (Cert.Same.pr_same m c m' e H)),
    h4.trans (funext (Cert.Same.sum_same m c m' e H)), hk⟩

theorem claim : Cert.Claim :=
  ⟨Cert.Kernel.Gen.facts, Cert.KernelIdeal.Gen.facts, Cert.ReferenceIdeal.Gen.facts, Cert.Same.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    IdealRules.named_const.statement Cert.KernelIdeal.κ "nlog2e" .f32 0xBFB8AA3B#32 _ rfl,
    algebraic⟩

end Cert.Proof

end
